-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_act_linearly [hPre_scales_act_linearly : Cert.Pre_scales_act_linearly.Facts] (m : (ℓ : Loc Cert.KernelIdeal.nD Cert.KernelIdeal.τ Cert.KernelIdeal.sig) → Buf (Elt Ideal) ℓ) : Prop :=
  ∀ c : Dev Cert.KernelIdeal.nD,
    (Cert.Pre_scales_act_linearly.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_scales_act_linearly.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_scales_act_linearly.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_scales_act_linearly.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_scales_act_linearly.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_scales_act_linearly.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_scales_act_linearly.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_scales_act_linearly.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_act_linearly [hPre_scales_act_linearly : Cert.Pre_scales_act_linearly.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_act_linearly.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_scales_act_linearly.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_scales_act_linearly.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_scales_act_linearly.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_scales_act_linearly.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_scales_act_linearly.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_scales_act_linearly.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_scales_act_linearly.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_scales_act_linearly [hKernelIdeal : Cert.KernelIdeal.Facts] [hPre_scales_act_linearly : Cert.Pre_scales_act_linearly.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_act_linearly m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_scales_act_linearly [hReferenceIdeal : Cert.ReferenceIdeal.Facts] [hPre_scales_act_linearly : Cert.Pre_scales_act_linearly.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_act_linearly m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_scales_act_linearly [hKernelIdeal : Cert.KernelIdeal.Facts] [hReferenceIdeal : Cert.ReferenceIdeal.Facts] [hPre_scales_act_linearly : Cert.Pre_scales_act_linearly.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_act_linearly m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_scales_act_linearly : Cert.Pre_scales_act_linearly.Facts),
    quiescent_Kernel (hKernel := hKernel)
    ∧ quiescent_KernelIdeal (hKernelIdeal := hKernelIdeal)
    ∧ quiescent_KernelIdeal_pre_scales_act_linearly (hKernelIdeal := hKernelIdeal) (hPre_scales_act_linearly := hPre_scales_act_linearly)
    ∧ quiescent_ReferenceIdeal (hReferenceIdeal := hReferenceIdeal)
    ∧ quiescent_ReferenceIdeal_pre_scales_act_linearly (hReferenceIdeal := hReferenceIdeal) (hPre_scales_act_linearly := hPre_scales_act_linearly)
    ∧ preserves_Kernel_KernelIdeal
    ∧ algebraic_KernelIdeal_ReferenceIdeal_pre_scales_act_linearly (hKernelIdeal := hKernelIdeal) (hReferenceIdeal := hReferenceIdeal) (hPre_scales_act_linearly := hPre_scales_act_linearly)
-- ==== Pre_scales_act_linearly.lean ====
abbrev S128x256x384 : Shape := ⟨3, ![128, 256, 384]⟩
abbrev S384x256 : Shape := ⟨2, ![384, 256]⟩
abbrev S256 : Shape := ⟨1, ![256]⟩
abbrev S3x3x256x256 : Shape := ⟨4, ![3, 3, 256, 256]⟩
abbrev S1x1x256x2 : Shape := ⟨4, ![1, 1, 256, 2]⟩
abbrev S2 : Shape := ⟨1, ![2]⟩
abbrev S1x1x256x4 : Shape := ⟨4, ![1, 1, 256, 4]⟩
abbrev S4 : Shape := ⟨1, ![4]⟩
abbrev S1x1x256x1 : Shape := ⟨4, ![1, 1, 256, 1]⟩
abbrev S1 : Shape := ⟨1, ![1]⟩
abbrev S3 : Shape := ⟨1, ![3]⟩
abbrev S_ : Shape := ⟨0, ![]⟩

class Facts : Prop where
  slices_S3_S1_0 : S3.Slices ![0] S1
  shapeCasts_S1_S_ : S1.ShapeCasts S_
  slices_S3_S1_1 : S3.Slices ![1] S1
  slices_S3_S1_2 : S3.Slices ![2] S1
  bcast_S_S3 : S_.BroadcastsInDim S3 (![] : Fin 0 → Fin S3.rank)
  bcast_S_S128x256x384 : S_.BroadcastsInDim S128x256x384 (![] : Fin 0 → Fin S128x256x384.rank)
  bcast_S_S384x256 : S_.BroadcastsInDim S384x256 (![] : Fin 0 → Fin S384x256.rank)
  bcast_S_S256 : S_.BroadcastsInDim S256 (![] : Fin 0 → Fin S256.rank)
  bcast_S_S3x3x256x256 : S_.BroadcastsInDim S3x3x256x256 (![] : Fin 0 → Fin S3x3x256x256.rank)
  bcast_S_S1x1x256x4 : S_.BroadcastsInDim S1x1x256x4 (![] : Fin 0 → Fin S1x1x256x4.rank)
  bcast_S_S4 : S_.BroadcastsInDim S4 (![] : Fin 0 → Fin S4.rank)

variable [Facts]

def fn_part2 {F : FTy → Type} [FloatOps F] (main_arg7 : FVec F S1x1x256x4 .f32) (main_arg8 : FVec F S4 .f32) (main_v10 : IVec S_ 1) (main_v13 : IVec S3 1) (main_v18 : IVec S128x256x384 1) (main_v23 : IVec S384x256 1) (main_v28 : IVec S256 1) (main_v33 : IVec S3x3x256x256 1) (main_v38 : IVec S256 1) : IVec S3 1 × IVec S128x256x384 1 × IVec S384x256 1 × IVec S256 1 × IVec S3x3x256x256 1 × IVec S256 1 × IVec S1x1x256x4 1 × IVec S4 1 :=
  let main_v39 : FVec F S1x1x256x4 .f32 := Host.absf main_arg7
  let main_cst_8 : FVec F S_ .f32 := constant S_ .f32 0x7F800000#32
  let main_v40 : FVec F S1x1x256x4 .f32 := broadcastInDim S1x1x256x4 ![] bcast_S_S1x1x256x4 main_cst_8
  let main_v41 : IVec S1x1x256x4 1 := cmpf .olt main_v39 main_v40
  let main_v42 : IVec S1x1x256x4 1 := broadcastInDim S1x1x256x4 ![] bcast_S_S1x1x256x4 main_v10
  let main_v43 : IVec S1x1x256x4 1 := ori main_v42 main_v41
  let main_v44 : FVec F S4 .f32 := Host.absf main_arg8
  let main_cst_9 : FVec F S_ .f32 := constant S_ .f32 0x7F800000#32
  let main_v45 : FVec F S4 .f32 := broadcastInDim S4 ![] bcast_S_S4 main_cst_9
  let main_v46 : IVec S4 1 := cmpf .olt main_v44 main_v45
  let main_v47 : IVec S4 1 := broadcastInDim S4 ![] bcast_S_S4 main_v10
  let main_v48 : IVec S4 1 := ori main_v47 main_v46
  (main_v13, main_v18, main_v23, main_v28, main_v33, main_v38, main_v43, main_v48)

def fn_part1 {F : FTy → Type} [FloatOps F] (main_arg1 : FVec F S384x256 .f32) (main_arg2 : FVec F S256 .f32) (main_arg3 : FVec F S3x3x256x256 .f32) (main_arg4 : FVec F S256 .f32) (main_arg7 : FVec F S1x1x256x4 .f32) (main_arg8 : FVec F S4 .f32) (main_v10 : IVec S_ 1) (main_v13 : IVec S3 1) (main_v18 : IVec S128x256x384 1) : IVec S3 1 × IVec S128x256x384 1 × IVec S384x256 1 × IVec S256 1 × IVec S3x3x256x256 1 × IVec S256 1 × IVec S1x1x256x4 1 × IVec S4 1 :=
  let main_v19 : FVec F S384x256 .f32 := Host.absf main_arg1
  let main_cst_4 : FVec F S_ .f32 := constant S_ .f32 0x7F800000#32
  let main_v20 : FVec F S384x256 .f32 := broadcastInDim S384x256 ![] bcast_S_S384x256 main_cst_4
  let main_v21 : IVec S384x256 1 := cmpf .olt main_v19 main_v20
  let main_v22 : IVec S384x256 1 := broadcastInDim S384x256 ![] bcast_S_S384x256 main_v10
  let main_v23 : IVec S384x256 1 := ori main_v22 main_v21
  let main_v24 : FVec F S256 .f32 := Host.absf main_arg2
  let main_cst_5 : FVec F S_ .f32 := constant S_ .f32 0x7F800000#32
  let main_v25 : FVec F S256 .f32 := broadcastInDim S256 ![] bcast_S_S256 main_cst_5
  let main_v26 : IVec S256 1 := cmpf .olt main_v24 main_v25
  let main_v27 : IVec S256 1 := broadcastInDim S256 ![] bcast_S_S256 main_v10
  let main_v28 : IVec S256 1 := ori main_v27 main_v26
  let main_v29 : FVec F S3x3x256x256 .f32 := Host.absf main_arg3
  let main_cst_6 : FVec F S_ .f32 := constant S_ .f32 0x7F800000#32
  let main_v30 : FVec F S3x3x256x256 .f32 := broadcastInDim S3x3x256x256 ![] bcast_S_S3x3x256x256 main_cst_6
  let main_v31 : IVec S3x3x256x256 1 := cmpf .olt main_v29 main_v30
  let main_v32 : IVec S3x3x256x256 1 := broadcastInDim S3x3x256x256 ![] bcast_S_S3x3x256x256 main_v10
  let main_v33 : IVec S3x3x256x256 1 := ori main_v32 main_v31
  let main_v34 : FVec F S256 .f32 := Host.absf main_arg4
  let main_cst_7 : FVec F S_ .f32 := constant S_ .f32 0x7F800000#32
  let main_v35 : FVec F S256 .f32 := broadcastInDim S256 ![] bcast_S_S256 main_cst_7
  let main_v36 : IVec S256 1 := cmpf .olt main_v34 main_v35
  let main_v37 : IVec S256 1 := broadcastInDim S256 ![] bcast_S_S256 main_v10
  let main_v38 : IVec S256 1 := ori main_v37 main_v36
  fn_part2 (F := F) main_arg7 main_arg8 main_v10 main_v13 main_v18 main_v23 main_v28 main_v33 main_v38

def fn {F : FTy → Type} [FloatOps F] (main_arg0 : FVec F S128x256x384 .f32) (main_arg1 : FVec F S384x256 .f32) (main_arg2 : FVec F S256 .f32) (main_arg3 : FVec F S3x3x256x256 .f32) (main_arg4 : FVec F S256 .f32) (main_arg5 : FVec F S1x1x256x2 .f32) (main_arg6 : FVec F S2 .f32) (main_arg7 : FVec F S1x1x256x4 .f32) (main_arg8 : FVec F S4 .f32) (main_arg9 : FVec F S1x1x256x1 .f32) (main_arg10 : FVec F S1 .f32) (main_arg11 : FVec F S3 .f32) : IVec S3 1 × IVec S128x256x384 1 × IVec S384x256 1 × IVec S256 1 × IVec S3x3x256x256 1 × IVec S256 1 × IVec S1x1x256x4 1 × IVec S4 1 :=
  let main_v0 : FVec F S1 .f32 := (extractStridedSlice S1 ![0] · slices_S3_S1_0) main_arg11
  let main_v1 : FVec F S_ .f32 := shapeCast S_ main_v0 shapeCasts_S1_S_
  let main_cst : FVec F S_ .f32 := constant S_ .f32 0x00000000#32
  let main_v2 : IVec S_ 1 := cmpf .oge main_v1 main_cst
  let main_v3 : FVec F S1 .f32 := (extractStridedSlice S1 ![1] · slices_S3_S1_1) main_arg11
  let main_v4 : FVec F S_ .f32 := shapeCast S_ main_v3 shapeCasts_S1_S_
  let main_cst_0 : FVec F S_ .f32 := constant S_ .f32 0x00000000#32
  let main_v5 : IVec S_ 1 := cmpf .oge main_v4 main_cst_0
  let main_v6 : IVec S_ 1 := andi main_v2 main_v5
  let main_v7 : FVec F S1 .f32 := (extractStridedSlice S1 ![2] · slices_S3_S1_2) main_arg11
  let main_v8 : FVec F S_ .f32 := shapeCast S_ main_v7 shapeCasts_S1_S_
  let main_cst_1 : FVec F S_ .f32 := constant S_ .f32 0x00000000#32
  let main_v9 : IVec S_ 1 := cmpf .oge main_v8 main_cst_1
  let main_v10 : IVec S_ 1 := andi main_v6 main_v9
  let main_v11 : FVec F S3 .f32 := Host.absf main_arg11
  let main_cst_2 : FVec F S_ .f32 := constant S_ .f32 0x7F800000#32
  let main_v12 : FVec F S3 .f32 := broadcastInDim S3 ![] bcast_S_S3 main_cst_2
  let main_v13 : IVec S3 1 := cmpf .olt main_v11 main_v12
  let main_v14 : FVec F S128x256x384 .f32 := Host.absf main_arg0
  let main_cst_3 : FVec F S_ .f32 := constant S_ .f32 0x7F800000#32
  let main_v15 : FVec F S128x256x384 .f32 := broadcastInDim S128x256x384 ![] bcast_S_S128x256x384 main_cst_3
  let main_v16 : IVec S128x256x384 1 := cmpf .olt main_v14 main_v15
  let main_v17 : IVec S128x256x384 1 := broadcastInDim S128x256x384 ![] bcast_S_S128x256x384 main_v10
  let main_v18 : IVec S128x256x384 1 := ori main_v17 main_v16
  fn_part1 (F := F) main_arg1 main_arg2 main_arg3 main_arg4 main_arg7 main_arg8 main_v10 main_v13 main_v18
-- ==== Kernel.lean ====
abbrev S128x256x384 : Shape := ⟨3, ![128, 256, 384]⟩
abbrev S384x256 : Shape := ⟨2, ![384, 256]⟩
abbrev S256 : Shape := ⟨1, ![256]⟩
abbrev S3x3x256x256 : Shape := ⟨4, ![3, 3, 256, 256]⟩
abbrev S1x1x256x2 : Shape := ⟨4, ![1, 1, 256, 2]⟩
abbrev S2 : Shape := ⟨1, ![2]⟩
abbrev S1x1x256x4 : Shape := ⟨4, ![1, 1, 256, 4]⟩
abbrev S4 : Shape := ⟨1, ![4]⟩
abbrev S1x1x256x1 : Shape := ⟨4, ![1, 1, 256, 1]⟩
abbrev S1 : Shape := ⟨1, ![1]⟩
abbrev S3 : Shape := ⟨1, ![3]⟩
abbrev S64x256 : Shape := ⟨2, ![64, 256]⟩
abbrev S16x64 : Shape := ⟨2, ![16, 64]⟩
abbrev S9x256x256 : Shape := ⟨3, ![9, 256, 256]⟩
abbrev S1x256 : Shape := ⟨2, ![1, 256]⟩
abbrev S256x2 : Shape := ⟨2, ![256, 2]⟩
abbrev S256x4 : Shape := ⟨2, ![256, 4]⟩
abbrev S256x1 : Shape := ⟨2, ![256, 1]⟩
abbrev S_ : Shape := ⟨0, ![]⟩
abbrev S256x7 : Shape := ⟨2, ![256, 7]⟩
abbrev S1x256x7 : Shape := ⟨3, ![1, 256, 7]⟩
abbrev S3x256x7 : Shape := ⟨3, ![3, 256, 7]⟩
abbrev S7 : Shape := ⟨1, ![7]⟩
abbrev S1x7 : Shape := ⟨2, ![1, 7]⟩
abbrev S1x1x7 : Shape := ⟨3, ![1, 1, 7]⟩
abbrev S3x1x7 : Shape := ⟨3, ![3, 1, 7]⟩
abbrev S128x336x7 : Shape := ⟨3, ![128, 336, 7]⟩
abbrev S128x7x336 : Shape := ⟨3, ![128, 7, 336]⟩
abbrev S16x256x384 : Shape := ⟨3, ![16, 256, 384]⟩
abbrev S16x336x7 : Shape := ⟨3, ![16, 336, 7]⟩
abbrev S4096x384 : Shape := ⟨2, ![4096, 384]⟩
abbrev S4096x256 : Shape := ⟨2, ![4096, 256]⟩
abbrev S4096x1 : Shape := ⟨2, ![4096, 1]⟩
abbrev S17x256 : Shape := ⟨2, ![17, 256]⟩
abbrev S4079x256 : Shape := ⟨2, ![4079, 256]⟩
abbrev S1x256x256 : Shape := ⟨3, ![1, 256, 256]⟩
abbrev S256x256 : Shape := ⟨2, ![256, 256]⟩
abbrev S16x256 : Shape := ⟨2, ![16, 256]⟩
abbrev S4080x256 : Shape := ⟨2, ![4080, 256]⟩
abbrev S15x256 : Shape := ⟨2, ![15, 256]⟩
abbrev S4081x256 : Shape := ⟨2, ![4081, 256]⟩
abbrev S4095x256 : Shape := ⟨2, ![4095, 256]⟩
abbrev S4096x7 : Shape := ⟨2, ![4096, 7]⟩
abbrev S1024x256 : Shape := ⟨2, ![1024, 256]⟩
abbrev S1024x1 : Shape := ⟨2, ![1024, 1]⟩
abbrev S9x256 : Shape := ⟨2, ![9, 256]⟩
abbrev S1015x256 : Shape := ⟨2, ![1015, 256]⟩
abbrev S8x256 : Shape := ⟨2, ![8, 256]⟩
abbrev S1016x256 : Shape := ⟨2, ![1016, 256]⟩
abbrev S7x256 : Shape := ⟨2, ![7, 256]⟩
abbrev S1017x256 : Shape := ⟨2, ![1017, 256]⟩
abbrev S1023x256 : Shape := ⟨2, ![1023, 256]⟩
abbrev S1024x7 : Shape := ⟨2, ![1024, 7]⟩
abbrev S5x256 : Shape := ⟨2, ![5, 256]⟩
abbrev S251x256 : Shape := ⟨2, ![251, 256]⟩
abbrev S4x256 : Shape := ⟨2, ![4, 256]⟩
abbrev S252x256 : Shape := ⟨2, ![252, 256]⟩
abbrev S3x256 : Shape := ⟨2, ![3, 256]⟩
abbrev S253x256 : Shape := ⟨2, ![253, 256]⟩
abbrev S255x256 : Shape := ⟨2, ![255, 256]⟩
abbrev S16x256x7 : Shape := ⟨3, ![16, 256, 7]⟩
abbrev S16x64x7 : Shape := ⟨3, ![16, 64, 7]⟩
abbrev S16x16x7 : Shape := ⟨3, ![16, 16, 7]⟩

abbrev nBuf : Space → Nat
  | .hbm => 63
  | .vmem => 12
  | .smem => 0
  | _ => 0

abbrev bufTy : (tb : Table) → Fin (tcTables nBuf tb) → BufTy
  | .hbm, ⟨0, _⟩ => ⟨S128x256x384, .f32⟩
  | .hbm, ⟨1, _⟩ => ⟨S384x256, .f32⟩
  | .hbm, ⟨2, _⟩ => ⟨S256, .f32⟩
  | .hbm, ⟨3, _⟩ => ⟨S3x3x256x256, .f32⟩
  | .hbm, ⟨4, _⟩ => ⟨S256, .f32⟩
  | .hbm, ⟨5, _⟩ => ⟨S1x1x256x2, .f32⟩
  | .hbm, ⟨6, _⟩ => ⟨S2, .f32⟩
  | .hbm, ⟨7, _⟩ => ⟨S1x1x256x4, .f32⟩
  | .hbm, ⟨8, _⟩ => ⟨S4, .f32⟩
  | .hbm, ⟨9, _⟩ => ⟨S1x1x256x1, .f32⟩
  | .hbm, ⟨10, _⟩ => ⟨S1, .f32⟩
  | .hbm, ⟨11, _⟩ => ⟨S3, .f32⟩
  | .hbm, ⟨12, _⟩ => ⟨S64x256, .f32⟩
  | .hbm, ⟨13, _⟩ => ⟨S16x64, .f32⟩
  | .hbm, ⟨14, _⟩ => ⟨S9x256x256, .f32⟩
  | .hbm, ⟨15, _⟩ => ⟨S1x256, .f32⟩
  | .hbm, ⟨16, _⟩ => ⟨S1x256, .f32⟩
  | .hbm, ⟨17, _⟩ => ⟨S256x2, .f32⟩
  | .hbm, ⟨18, _⟩ => ⟨S256x4, .f32⟩
  | .hbm, ⟨19, _⟩ => ⟨S256x1, .f32⟩
  | .hbm, ⟨20, _⟩ => ⟨S1, .f32⟩
  | .hbm, ⟨21, _⟩ => ⟨S_, .f32⟩
  | .hbm, ⟨22, _⟩ => ⟨S256x4, .f32⟩
  | .hbm, ⟨23, _⟩ => ⟨S256x4, .f32⟩
  | .hbm, ⟨24, _⟩ => ⟨S256x7, .f32⟩
  | .hbm, ⟨25, _⟩ => ⟨S1, .f32⟩
  | .hbm, ⟨26, _⟩ => ⟨S_, .f32⟩
  | .hbm, ⟨27, _⟩ => ⟨S256x4, .f32⟩
  | .hbm, ⟨28, _⟩ => ⟨S256x4, .f32⟩
  | .hbm, ⟨29, _⟩ => ⟨S256x7, .f32⟩
  | .hbm, ⟨30, _⟩ => ⟨S1, .f32⟩
  | .hbm, ⟨31, _⟩ => ⟨S_, .f32⟩
  | .hbm, ⟨32, _⟩ => ⟨S256x4, .f32⟩
  | .hbm, ⟨33, _⟩ => ⟨S256x4, .f32⟩
  | .hbm, ⟨34, _⟩ => ⟨S256x7, .f32⟩
  | .hbm, ⟨35, _⟩ => ⟨S1x256x7, .f32⟩
  | .hbm, ⟨36, _⟩ => ⟨S1x256x7, .f32⟩
  | .hbm, ⟨37, _⟩ => ⟨S1x256x7, .f32⟩
  | .hbm, ⟨38, _⟩ => ⟨S3x256x7, .f32⟩
  | .hbm, ⟨39, _⟩ => ⟨S1, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S7, .f32⟩
  | .hbm, ⟨44, _⟩ => ⟨S1x7, .f32⟩
  | .hbm, ⟨45, _⟩ => ⟨S1, .f32⟩
  | .hbm, ⟨46, _⟩ => ⟨S_, .f32⟩
  | .hbm, ⟨47, _⟩ => ⟨S4, .f32⟩
  | .hbm, ⟨48, _⟩ => ⟨S4, .f32⟩
  | .hbm, ⟨49, _⟩ => ⟨S7, .f32⟩
  | .hbm, ⟨50, _⟩ => ⟨S1x7, .f32⟩
  | .hbm, ⟨51, _⟩ => ⟨S1, .f32⟩
  | .hbm, ⟨52, _⟩ => ⟨S_, .f32⟩
  | .hbm, ⟨53, _⟩ => ⟨S4, .f32⟩
  | .hbm, ⟨54, _⟩ => ⟨S4, .f32⟩
  | .hbm, ⟨55, _⟩ => ⟨S7, .f32⟩
  | .hbm, ⟨56, _⟩ => ⟨S1x7, .f32⟩
  | .hbm, ⟨57, _⟩ => ⟨S1x1x7, .f32⟩
  | .hbm, ⟨58, _⟩ => ⟨S1x1x7, .f32⟩
  | .hbm, ⟨59, _⟩ => ⟨S1x1x7, .f32⟩
  | .hbm, ⟨60, _⟩ => ⟨S3x1x7, .f32⟩
  | .hbm, ⟨61, _⟩ => ⟨S128x336x7, .f32⟩
  | .hbm, ⟨62, _⟩ => ⟨S128x7x336, .f32⟩
  | .local _ .vmem, ⟨0, _⟩ => ⟨S16x256x384, .f32⟩
  | .local _ .vmem, ⟨1, _⟩ => ⟨S16x256x384, .f32⟩
  | .local _ .vmem, ⟨2, _⟩ => ⟨S384x256, .f32⟩
  | .local _ .vmem, ⟨3, _⟩ => ⟨S1x256, .f32⟩
  | .local _ .vmem, ⟨4, _⟩ => ⟨S9x256x256, .f32⟩
  | .local _ .vmem, ⟨5, _⟩ => ⟨S1x256, .f32⟩
  | .local _ .vmem, ⟨6, _⟩ => ⟨S3x256x7, .f32⟩
  | .local _ .vmem, ⟨7, _⟩ => ⟨S3x1x7, .f32⟩
  | .local _ .vmem, ⟨8, _⟩ => ⟨S64x256, .f32⟩
  | .local _ .vmem, ⟨9, _⟩ => ⟨S16x64, .f32⟩
  | .local _ .vmem, ⟨10, _⟩ => ⟨S16x336x7, .f32⟩
  | .local _ .vmem, ⟨11, _⟩ => ⟨S16x336x7, .f32⟩
  | _, _ => ⟨S128x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_cst : Ref sig .tc := ⟨.hbm, 12, rfl⟩
abbrev main_call0_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_call0_v30 : Ref sig .tc := ⟨.hbm, 44, rfl⟩
abbrev main_call0_v31 : Ref sig .tc := ⟨.hbm, 45, rfl⟩
abbrev main_call0_v32 : Ref sig .tc := ⟨.hbm, 46, rfl⟩
abbrev main_call0_v33 : Ref sig .tc := ⟨.hbm, 47, rfl⟩
abbrev main_call0_v34 : Ref sig .tc := ⟨.hbm, 48, rfl⟩
abbrev main_call0_v35 : Ref sig .tc := ⟨.hbm, 49, rfl⟩
abbrev main_call0_v36 : Ref sig .tc := ⟨.hbm, 50, rfl⟩
abbrev main_call0_v37 : Ref sig .tc := ⟨.hbm, 51, rfl⟩
abbrev main_call0_v38 : Ref sig .tc := ⟨.hbm, 52, rfl⟩
abbrev main_call0_v39 : Ref sig .tc := ⟨.hbm, 53, rfl⟩
abbrev main_call0_v40 : Ref sig .tc := ⟨.hbm, 54, rfl⟩
abbrev main_call0_v41 : Ref sig .tc := ⟨.hbm, 55, rfl⟩
abbrev main_call0_v42 : Ref sig .tc := ⟨.hbm, 56, rfl⟩
abbrev main_call0_v43 : Ref sig .tc := ⟨.hbm, 57, rfl⟩
abbrev main_call0_v44 : Ref sig .tc := ⟨.hbm, 58, rfl⟩
abbrev main_call0_v45 : Ref sig .tc := ⟨.hbm, 59, rfl⟩
abbrev main_call0_v46 : Ref sig .tc := ⟨.hbm, 60, rfl⟩
abbrev main_call0_v47 : Ref sig .tc := ⟨.hbm, 61, rfl⟩
abbrev main_v0 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x256x7 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1x7 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x336x7 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S128x256x384 : Shape := ⟨3, ![128, 256, 384]⟩
abbrev S384x256 : Shape := ⟨2, ![384, 256]⟩
abbrev S256 : Shape := ⟨1, ![256]⟩
abbrev S3x3x256x256 : Shape := ⟨4, ![3, 3, 256, 256]⟩
abbrev S1x1x256x2 : Shape := ⟨4, ![1, 1, 256, 2]⟩
abbrev S2 : Shape := ⟨1, ![2]⟩
abbrev S1x1x256x4 : Shape := ⟨4, ![1, 1, 256, 4]⟩
abbrev S4 : Shape := ⟨1, ![4]⟩
abbrev S1x1x256x1 : Shape := ⟨4, ![1, 1, 256, 1]⟩
abbrev S1 : Shape := ⟨1, ![1]⟩
abbrev S3 : Shape := ⟨1, ![3]⟩
abbrev S128x256x256 : Shape := ⟨3, ![128, 256, 256]⟩
abbrev S1x1x256 : Shape := ⟨3, ![1, 1, 256]⟩
abbrev S128x16x16x256 : Shape := ⟨4, ![128, 16, 16, 256]⟩
abbrev S128x8x2x8x2x256 : Shape := ⟨6, ![128, 8, 2, 8, 2, 256]⟩
abbrev S_ : Shape := ⟨0, ![]⟩
abbrev S128x8x8x256 : Shape := ⟨4, ![128, 8, 8, 256]⟩
abbrev S128x4x2x4x2x256 : Shape := ⟨6, ![128, 4, 2, 4, 2, 256]⟩
abbrev S128x4x4x256 : Shape := ⟨4, ![128, 4, 4, 256]⟩
abbrev S128x18x18x256 : Shape := ⟨4, ![128, 18, 18, 256]⟩
abbrev S1x1x256x256 : Shape := ⟨4, ![1, 1, 256, 256]⟩
abbrev S256x256 : Shape := ⟨2, ![256, 256]⟩
abbrev S1x1x1x256 : Shape := ⟨4, ![1, 1, 1, 256]⟩
abbrev S256x2 : Shape := ⟨2, ![256, 2]⟩
abbrev S128x16x16x2 : Shape := ⟨4, ![128, 16, 16, 2]⟩
abbrev S1x1x1x2 : Shape := ⟨4, ![1, 1, 1, 2]⟩
abbrev S256x4 : Shape := ⟨2, ![256, 4]⟩
abbrev S128x16x16x4 : Shape := ⟨4, ![128, 16, 16, 4]⟩
abbrev S1x1x1x4 : Shape := ⟨4, ![1, 1, 1, 4]⟩
abbrev S256x1 : Shape := ⟨2, ![256, 1]⟩
abbrev S128x16x16x1 : Shape := ⟨4, ![128, 16, 16, 1]⟩
abbrev S1x1x1x1 : Shape := ⟨4, ![1, 1, 1, 1]⟩
abbrev S128x16x16x7 : Shape := ⟨4, ![128, 16, 16, 7]⟩
abbrev S128x256x7 : Shape := ⟨3, ![128, 256, 7]⟩
abbrev S128x7x256 : Shape := ⟨3, ![128, 7, 256]⟩
abbrev S128x10x10x256 : Shape := ⟨4, ![128, 10, 10, 256]⟩
abbrev S128x8x8x2 : Shape := ⟨4, ![128, 8, 8, 2]⟩
abbrev S128x8x8x4 : Shape := ⟨4, ![128, 8, 8, 4]⟩
abbrev S128x8x8x1 : Shape := ⟨4, ![128, 8, 8, 1]⟩
abbrev S128x8x8x7 : Shape := ⟨4, ![128, 8, 8, 7]⟩
abbrev S128x64x7 : Shape := ⟨3, ![128, 64, 7]⟩
abbrev S128x7x64 : Shape := ⟨3, ![128, 7, 64]⟩
abbrev S128x6x6x256 : Shape := ⟨4, ![128, 6, 6, 256]⟩
abbrev S128x4x4x2 : Shape := ⟨4, ![128, 4, 4, 2]⟩
abbrev S128x4x4x4 : Shape := ⟨4, ![128, 4, 4, 4]⟩
abbrev S128x4x4x1 : Shape := ⟨4, ![128, 4, 4, 1]⟩
abbrev S128x4x4x7 : Shape := ⟨4, ![128, 4, 4, 7]⟩
abbrev S128x16x7 : Shape := ⟨3, ![128, 16, 7]⟩
abbrev S128x7x16 : Shape := ⟨3, ![128, 7, 16]⟩
abbrev S128x7x336 : Shape := ⟨3, ![128, 7, 336]⟩

abbrev nBuf : Space → Nat
  | .hbm => 267
  | .vmem => 0
  | .smem => 0
  | _ => 0

abbrev hbmTy0_0 (i : Nat) : BufTy := match i % 128 with
  | 0 => ⟨S128x256x384, .f32⟩
  | 1 => ⟨S384x256, .f32⟩
  | 2 => ⟨S256, .f32⟩
  | 3 => ⟨S3x3x256x256, .f32⟩
  | 4 => ⟨S256, .f32⟩
  | 5 => ⟨S1x1x256x2, .f32⟩
  | 6 => ⟨S2, .f32⟩
  | 7 => ⟨S1x1x256x4, .f32⟩
  | 8 => ⟨S4, .f32⟩
  | 9 => ⟨S1x1x256x1, .f32⟩
  | 10 => ⟨S1, .f32⟩
  | 11 => ⟨S3, .f32⟩
  | 12 => ⟨S128x256x256, .f32⟩
  | 13 => ⟨S1x1x256, .f32⟩
  | 14 => ⟨S128x256x256, .f32⟩
  | 15 => ⟨S128x256x256, .f32⟩
  | 16 => ⟨S128x16x16x256, .f32⟩
  | 17 => ⟨S128x8x2x8x2x256, .f32⟩
  | 18 => ⟨S_, .f32⟩
  | 19 => ⟨S128x8x8x256, .f32⟩
  | 20 => ⟨S_, .f32⟩
  | 21 => ⟨S128x8x8x256, .f32⟩
  | 22 => ⟨S128x8x8x256, .f32⟩
  | 23 => ⟨S128x4x2x4x2x256, .f32⟩
  | 24 => ⟨S_, .f32⟩
  | 25 => ⟨S128x4x4x256, .f32⟩
  | 26 => ⟨S_, .f32⟩
  | 27 => ⟨S128x4x4x256, .f32⟩
  | 28 => ⟨S128x4x4x256, .f32⟩
  | 29 => ⟨S_, .i32⟩
  | 30 => ⟨S_, .f32⟩
  | 31 => ⟨S128x18x18x256, .f32⟩
  | 32 => ⟨S_, .f32⟩
  | 33 => ⟨S128x16x16x256, .f32⟩
  | 34 => ⟨S128x16x16x256, .f32⟩
  | 35 => ⟨S1x1x256x256, .f32⟩
  | 36 => ⟨S256x256, .f32⟩
  | 37 => ⟨S128x16x16x256, .f32⟩
  | 38 => ⟨S128x16x16x256, .f32⟩
  | 39 => ⟨S128x16x16x256, .f32⟩
  | 40 => ⟨S1x1x256x256, .f32⟩
  | 41 => ⟨S256x256, .f32⟩
  | 42 => ⟨S128x16x16x256, .f32⟩
  | 43 => ⟨S128x16x16x256, .f32⟩
  | 44 => ⟨S128x16x16x256, .f32⟩
  | 45 => ⟨S1x1x256x256, .f32⟩
  | 46 => ⟨S256x256, .f32⟩
  | 47 => ⟨S128x16x16x256, .f32⟩
  | 48 => ⟨S128x16x16x256, .f32⟩
  | 49 => ⟨S128x16x16x256, .f32⟩
  | 50 => ⟨S1x1x256x256, .f32⟩
  | 51 => ⟨S256x256, .f32⟩
  | 52 => ⟨S128x16x16x256, .f32⟩
  | 53 => ⟨S128x16x16x256, .f32⟩
  | 54 => ⟨S128x16x16x256, .f32⟩
  | 55 => ⟨S1x1x256x256, .f32⟩
  | 56 => ⟨S256x256, .f32⟩
  | 57 => ⟨S128x16x16x256, .f32⟩
  | 58 => ⟨S128x16x16x256, .f32⟩
  | 59 => ⟨S128x16x16x256, .f32⟩
  | 60 => ⟨S1x1x256x256, .f32⟩
  | 61 => ⟨S256x256, .f32⟩
  | 62 => ⟨S128x16x16x256, .f32⟩
  | 63 => ⟨S128x16x16x256, .f32⟩
  | 64 => ⟨S128x16x16x256, .f32⟩
  | 65 => ⟨S1x1x256x256, .f32⟩
  | 66 => ⟨S256x256, .f32⟩
  | 67 => ⟨S128x16x16x256, .f32⟩
  | 68 => ⟨S128x16x16x256, .f32⟩
  | 69 => ⟨S128x16x16x256, .f32⟩
  | 70 => ⟨S1x1x256x256, .f32⟩
  | 71 => ⟨S256x256, .f32⟩
  | 72 => ⟨S128x16x16x256, .f32⟩
  | 73 => ⟨S128x16x16x256, .f32⟩
  | 74 => ⟨S128x16x16x256, .f32⟩
  | 75 => ⟨S1x1x256x256, .f32⟩
  | 76 => ⟨S256x256, .f32⟩
  | 77 => ⟨S128x16x16x256, .f32⟩
  | 78 => ⟨S128x16x16x256, .f32⟩
  | 79 => ⟨S1x1x1x256, .f32⟩
  | 80 => ⟨S128x16x16x256, .f32⟩
  | 81 => ⟨S128x16x16x256, .f32⟩
  | 82 => ⟨S_, .f32⟩
  | 83 => ⟨S128x16x16x256, .f32⟩
  | 84 => ⟨S128x16x16x256, .f32⟩
  | 85 => ⟨S256x2, .f32⟩
  | 86 => ⟨S128x16x16x2, .f32⟩
  | 87 => ⟨S1x1x1x2, .f32⟩
  | 88 => ⟨S128x16x16x2, .f32⟩
  | 89 => ⟨S128x16x16x2, .f32⟩
  | 90 => ⟨S1, .f32⟩
  | 91 => ⟨S_, .f32⟩
  | 92 => ⟨S256x4, .f32⟩
  | 93 => ⟨S128x16x16x4, .f32⟩
  | 94 => ⟨S1x1x1x4, .f32⟩
  | 95 => ⟨S128x16x16x4, .f32⟩
  | 96 => ⟨S128x16x16x4, .f32⟩
  | 97 => ⟨S128x16x16x4, .f32⟩
  | 98 => ⟨S128x16x16x4, .f32⟩
  | 99 => ⟨S128x16x16x4, .f32⟩
  | 100 => ⟨S256x1, .f32⟩
  | 101 => ⟨S128x16x16x1, .f32⟩
  | 102 => ⟨S1x1x1x1, .f32⟩
  | 103 => ⟨S128x16x16x1, .f32⟩
  | 104 => ⟨S128x16x16x1, .f32⟩
  | 105 => ⟨S128x16x16x7, .f32⟩
  | 106 => ⟨S128x256x7, .f32⟩
  | 107 => ⟨S128x7x256, .f32⟩
  | 108 => ⟨S_, .i32⟩
  | 109 => ⟨S_, .f32⟩
  | 110 => ⟨S128x10x10x256, .f32⟩
  | 111 => ⟨S_, .f32⟩
  | 112 => ⟨S128x8x8x256, .f32⟩
  | 113 => ⟨S128x8x8x256, .f32⟩
  | 114 => ⟨S1x1x256x256, .f32⟩
  | 115 => ⟨S256x256, .f32⟩
  | 116 => ⟨S128x8x8x256, .f32⟩
  | 117 => ⟨S128x8x8x256, .f32⟩
  | 118 => ⟨S128x8x8x256, .f32⟩
  | 119 => ⟨S1x1x256x256, .f32⟩
  | 120 => ⟨S256x256, .f32⟩
  | 121 => ⟨S128x8x8x256, .f32⟩
  | 122 => ⟨S128x8x8x256, .f32⟩
  | 123 => ⟨S128x8x8x256, .f32⟩
  | 124 => ⟨S1x1x256x256, .f32⟩
  | 125 => ⟨S256x256, .f32⟩
  | 126 => ⟨S128x8x8x256, .f32⟩
  | 127 => ⟨S128x8x8x256, .f32⟩
  | _ => ⟨S128x256x384, .f32⟩

abbrev hbmTy0_1 (i : Nat) : BufTy := match i % 128 with
  | 0 => ⟨S128x8x8x256, .f32⟩
  | 1 => ⟨S1x1x256x256, .f32⟩
  | 2 => ⟨S256x256, .f32⟩
  | 3 => ⟨S128x8x8x256, .f32⟩
  | 4 => ⟨S128x8x8x256, .f32⟩
  | 5 => ⟨S128x8x8x256, .f32⟩
  | 6 => ⟨S1x1x256x256, .f32⟩
  | 7 => ⟨S256x256, .f32⟩
  | 8 => ⟨S128x8x8x256, .f32⟩
  | 9 => ⟨S128x8x8x256, .f32⟩
  | 10 => ⟨S128x8x8x256, .f32⟩
  | 11 => ⟨S1x1x256x256, .f32⟩
  | 12 => ⟨S256x256, .f32⟩
  | 13 => ⟨S128x8x8x256, .f32⟩
  | 14 => ⟨S128x8x8x256, .f32⟩
  | 15 => ⟨S128x8x8x256, .f32⟩
  | 16 => ⟨S1x1x256x256, .f32⟩
  | 17 => ⟨S256x256, .f32⟩
  | 18 => ⟨S128x8x8x256, .f32⟩
  | 19 => ⟨S128x8x8x256, .f32⟩
  | 20 => ⟨S128x8x8x256, .f32⟩
  | 21 => ⟨S1x1x256x256, .f32⟩
  | 22 => ⟨S256x256, .f32⟩
  | 23 => ⟨S128x8x8x256, .f32⟩
  | 24 => ⟨S128x8x8x256, .f32⟩
  | 25 => ⟨S128x8x8x256, .f32⟩
  | 26 => ⟨S1x1x256x256, .f32⟩
  | 27 => ⟨S256x256, .f32⟩
  | 28 => ⟨S128x8x8x256, .f32⟩
  | 29 => ⟨S128x8x8x256, .f32⟩
  | 30 => ⟨S1x1x1x256, .f32⟩
  | 31 => ⟨S128x8x8x256, .f32⟩
  | 32 => ⟨S128x8x8x256, .f32⟩
  | 33 => ⟨S_, .f32⟩
  | 34 => ⟨S128x8x8x256, .f32⟩
  | 35 => ⟨S128x8x8x256, .f32⟩
  | 36 => ⟨S256x2, .f32⟩
  | 37 => ⟨S128x8x8x2, .f32⟩
  | 38 => ⟨S1x1x1x2, .f32⟩
  | 39 => ⟨S128x8x8x2, .f32⟩
  | 40 => ⟨S128x8x8x2, .f32⟩
  | 41 => ⟨S1, .f32⟩
  | 42 => ⟨S_, .f32⟩
  | 43 => ⟨S256x4, .f32⟩
  | 44 => ⟨S128x8x8x4, .f32⟩
  | 45 => ⟨S1x1x1x4, .f32⟩
  | 46 => ⟨S128x8x8x4, .f32⟩
  | 47 => ⟨S128x8x8x4, .f32⟩
  | 48 => ⟨S128x8x8x4, .f32⟩
  | 49 => ⟨S128x8x8x4, .f32⟩
  | 50 => ⟨S128x8x8x4, .f32⟩
  | 51 => ⟨S256x1, .f32⟩
  | 52 => ⟨S128x8x8x1, .f32⟩
  | 53 => ⟨S1x1x1x1, .f32⟩
  | 54 => ⟨S128x8x8x1, .f32⟩
  | 55 => ⟨S128x8x8x1, .f32⟩
  | 56 => ⟨S128x8x8x7, .f32⟩
  | 57 => ⟨S128x64x7, .f32⟩
  | 58 => ⟨S128x7x64, .f32⟩
  | 59 => ⟨S_, .i32⟩
  | 60 => ⟨S_, .f32⟩
  | 61 => ⟨S128x6x6x256, .f32⟩
  | 62 => ⟨S_, .f32⟩
  | 63 => ⟨S128x4x4x256, .f32⟩
  | 64 => ⟨S128x4x4x256, .f32⟩
  | 65 => ⟨S1x1x256x256, .f32⟩
  | 66 => ⟨S256x256, .f32⟩
  | 67 => ⟨S128x4x4x256, .f32⟩
  | 68 => ⟨S128x4x4x256, .f32⟩
  | 69 => ⟨S128x4x4x256, .f32⟩
  | 70 => ⟨S1x1x256x256, .f32⟩
  | 71 => ⟨S256x256, .f32⟩
  | 72 => ⟨S128x4x4x256, .f32⟩
  | 73 => ⟨S128x4x4x256, .f32⟩
  | 74 => ⟨S128x4x4x256, .f32⟩
  | 75 => ⟨S1x1x256x256, .f32⟩
  | 76 => ⟨S256x256, .f32⟩
  | 77 => ⟨S128x4x4x256, .f32⟩
  | 78 => ⟨S128x4x4x256, .f32⟩
  | 79 => ⟨S128x4x4x256, .f32⟩
  | 80 => ⟨S1x1x256x256, .f32⟩
  | 81 => ⟨S256x256, .f32⟩
  | 82 => ⟨S128x4x4x256, .f32⟩
  | 83 => ⟨S128x4x4x256, .f32⟩
  | 84 => ⟨S128x4x4x256, .f32⟩
  | 85 => ⟨S1x1x256x256, .f32⟩
  | 86 => ⟨S256x256, .f32⟩
  | 87 => ⟨S128x4x4x256, .f32⟩
  | 88 => ⟨S128x4x4x256, .f32⟩
  | 89 => ⟨S128x4x4x256, .f32⟩
  | 90 => ⟨S1x1x256x256, .f32⟩
  | 91 => ⟨S256x256, .f32⟩
  | 92 => ⟨S128x4x4x256, .f32⟩
  | 93 => ⟨S128x4x4x256, .f32⟩
  | 94 => ⟨S128x4x4x256, .f32⟩
  | 95 => ⟨S1x1x256x256, .f32⟩
  | 96 => ⟨S256x256, .f32⟩
  | 97 => ⟨S128x4x4x256, .f32⟩
  | 98 => ⟨S128x4x4x256, .f32⟩
  | 99 => ⟨S128x4x4x256, .f32⟩
  | 100 => ⟨S1x1x256x256, .f32⟩
  | 101 => ⟨S256x256, .f32⟩
  | 102 => ⟨S128x4x4x256, .f32⟩
  | 103 => ⟨S128x4x4x256, .f32⟩
  | 104 => ⟨S128x4x4x256, .f32⟩
  | 105 => ⟨S1x1x256x256, .f32⟩
  | 106 => ⟨S256x256, .f32⟩
  | 107 => ⟨S128x4x4x256, .f32⟩
  | 108 => ⟨S128x4x4x256, .f32⟩
  | 109 => ⟨S1x1x1x256, .f32⟩
  | 110 => ⟨S128x4x4x256, .f32⟩
  | 111 => ⟨S128x4x4x256, .f32⟩
  | 112 => ⟨S_, .f32⟩
  | 113 => ⟨S128x4x4x256, .f32⟩
  | 114 => ⟨S128x4x4x256, .f32⟩
  | 115 => ⟨S256x2, .f32⟩
  | 116 => ⟨S128x4x4x2, .f32⟩
  | 117 => ⟨S1x1x1x2, .f32⟩
  | 118 => ⟨S128x4x4x2, .f32⟩
  | 119 => ⟨S128x4x4x2, .f32⟩
  | 120 => ⟨S1, .f32⟩
  | 121 => ⟨S_, .f32⟩
  | 122 => ⟨S256x4, .f32⟩
  | 123 => ⟨S128x4x4x4, .f32⟩
  | 124 => ⟨S1x1x1x4, .f32⟩
  | 125 => ⟨S128x4x4x4, .f32⟩
  | 126 => ⟨S128x4x4x4, .f32⟩
  | 127 => ⟨S128x4x4x4, .f32⟩
  | _ => ⟨S128x256x384, .f32⟩

abbrev hbmTy0_2 (i : Nat) : BufTy := match i % 128 with
  | 0 => ⟨S128x4x4x4, .f32⟩
  | 1 => ⟨S128x4x4x4, .f32⟩
  | 2 => ⟨S256x1, .f32⟩
  | 3 => ⟨S128x4x4x1, .f32⟩
  | 4 => ⟨S1x1x1x1, .f32⟩
  | 5 => ⟨S128x4x4x1, .f32⟩
  | 6 => ⟨S128x4x4x1, .f32⟩
  | 7 => ⟨S128x4x4x7, .f32⟩
  | 8 => ⟨S128x16x7, .f32⟩
  | 9 => ⟨S128x7x16, .f32⟩
  | 10 => ⟨S128x7x336, .f32⟩
  | _ => ⟨S128x256x384, .f32⟩

abbrev hbmTy (i : Nat) : BufTy := match i / 128 with
  | 0 => hbmTy0_0 i
  | 1 => hbmTy0_1 i
  | 2 => hbmTy0_2 i
  | _ => ⟨S128x256x384, .f32⟩

abbrev bufTy : (tb : Table) → Fin (tcTables nBuf tb) → BufTy
  | .hbm, ⟨i, _⟩ => hbmTy i
  | _, _ => ⟨S128x256x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_call0_v0 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_call1_cst : Ref sig .tc := ⟨.hbm, 82, rfl⟩
abbrev main_call1_v0 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_c_4 : Ref sig .tc := ⟨.hbm, 108, rfl⟩
abbrev main_call2_v0 : Ref sig .tc := ⟨.hbm, 109, rfl⟩
abbrev main_v87 : Ref sig .tc := ⟨.hbm, 110, rfl⟩
abbrev main_cst_5 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_call3_cst : Ref sig .tc := ⟨.hbm, 161, rfl⟩
abbrev main_call3_v0 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_c_6 : Ref sig .tc := ⟨.hbm, 187, rfl⟩
abbrev main_call4_v0 : Ref sig .tc := ⟨.hbm, 188, rfl⟩
abbrev main_v161 : Ref sig .tc := ⟨.hbm, 189, rfl⟩
abbrev main_cst_7 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_v203 : Ref sig .tc := ⟨.hbm, 232, rfl⟩
abbrev main_v204 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩
abbrev main_v209 : Ref sig .tc := ⟨.hbm, 238, rfl⟩
abbrev main_v210 : Ref sig .tc := ⟨.hbm, 239, rfl⟩
abbrev main_call5_cst : Ref sig .tc := ⟨.hbm, 240, rfl⟩
abbrev main_call5_v0 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev main_v214 : Ref sig .tc := ⟨.hbm, 245, rfl⟩
abbrev main_v215 : Ref sig .tc := ⟨.hbm, 246, rfl⟩
abbrev main_v216 : Ref sig .tc := ⟨.hbm, 247, rfl⟩
abbrev main_v217 : Ref sig .tc := ⟨.hbm, 248, rfl⟩
abbrev main_v218 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_v224 : Ref sig .tc := ⟨.hbm, 255, rfl⟩
abbrev main_v225 : Ref sig .tc := ⟨.hbm, 256, rfl⟩
abbrev main_v226 : Ref sig .tc := ⟨.hbm, 257, rfl⟩
abbrev main_v227 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩

abbrev nD : Nat := 1
abbrev τ : Topo := Topo.v7x

variable {F : FTy → Type} [FloatOps F]
-- ==== Proof.KernelIdealSetup.lean ====
/- What a launch of the idealized kernel needs besides its body: the layout facts of the pallas_call, the points of its
   grid, the host operations before and after the call, and @main as the chain of those parts. -/
module

public import proofs.«01_k».proof.Proof.Gen.KernelIdeal
public import Idealize.ShloMosaic.Lib.Pipeline.Kit
public import Idealize.ShloMosaic.Lib.Pipeline.Regions

@[expose] public section

noncomputable section

namespace Cert.KernelIdeal.Setup

open Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 10, 0 < (spec0 w).block.numel := by decide
/-- The windows' arrays and the staging memrefs are whole buffers. -/
theorem arr_whole0 : ∀ w : Fin 10, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | ⟨_ + 10, h⟩ => absurd h (Nat.not_lt.2 (Nat.le_add_left _ _))
theorem stage_whole0 : ∀ (w : Fin 10) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | 8 => fun s => hstage0_8 (s.cast nbuf0_8) | 9 => fun s => hstage0_9 (s.cast nbuf0_9) | ⟨_ + 10, h⟩ => absurd h (Nat.not_lt.2 (Nat.le_add_left _ _))
/-- The five, bundled: what the kit-form launch theorems (Lib/Pipeline/Kit.lean `θ_run_region*_kit`) take. -/
theorem launch0 : Pipeline.LaunchFacts (nD := nD) (τ := τ) cfgs 0 := ⟨cellOf_inj, winFacts0, block_pos0, arr_whole0, stage_whole0⟩

/-- The grid has 8 points. -/
theorem N_0 : grid0.N = 8 := by decide
/-- Point 0. -/
def t0_0 : Fin grid0.N := ⟨0, by rw [N_0]; decide⟩
/-- Point 1. -/
def t0_1 : Fin grid0.N := ⟨1, by rw [N_0]; decide⟩
/-- Point 2. -/
def t0_2 : Fin grid0.N := ⟨2, by rw [N_0]; decide⟩
/-- Point 3. -/
def t0_3 : Fin grid0.N := ⟨3, by rw [N_0]; decide⟩
/-- Point 4. -/
def t0_4 : Fin grid0.N := ⟨4, by rw [N_0]; decide⟩
/-- Point 5. -/
def t0_5 : Fin grid0.N := ⟨5, by rw [N_0]; decide⟩
/-- Point 6. -/
def t0_6 : Fin grid0.N := ⟨6, by rw [N_0]; decide⟩
/-- Point 7. -/
def t0_7 : Fin grid0.N := ⟨7, by rw [N_0]; decide⟩
/-- Every point is one of them. -/
theorem fin_N0 (t : Fin grid0.N) : t = t0_0 ∨ t = t0_1 ∨ t = t0_2 ∨ t = t0_3 ∨ t = t0_4 ∨ t = t0_5 ∨ t = t0_6 ∨ t = t0_7 := by
  obtain ⟨t, ht⟩ := t; have := N_0; simp only [t0_0, t0_1, t0_2, t0_3, t0_4, t0_5, t0_6, t0_7, Fin.mk.injEq]; omega

/-- The windows conjoined one by one. -/
theorem bigSep_W0 {M : Type} [URA M] (Φ : Fin 10 → sProp M) : bigSep Finset.univ Φ = iprop(Φ (0 : Fin 10) ∗ Φ (1 : Fin 10) ∗ Φ (2 : Fin 10) ∗ Φ (3 : Fin 10) ∗ Φ (4 : Fin 10) ∗ Φ (5 : Fin 10) ∗ Φ (6 : Fin 10) ∗ Φ (7 : Fin 10) ∗ Φ (8 : Fin 10) ∗ Φ (9 : Fin 10)) :=
  bigSep_univ_eq_bigSepL [(0 : Fin 10), (1 : Fin 10), (2 : Fin 10), (3 : Fin 10), (4 : Fin 10), (5 : Fin 10), (6 : Fin 10), (7 : Fin 10), (8 : Fin 10), (9 : Fin 10)] (by decide) (by decide) Φ
/-- The core's scoped buffers that are no staging buffer of custom_call 0, each whole at some contents:
    none. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = (BI.emp : sProp (MT nD τ sig Ix Val Name U Lvl)) :=
  Pipeline.scopedRest_eq_of_list spec0 c [] (by decide) (by decide)
-- the unscoped rest of custom_call 0 is 53 buffers: not enumerated (routed whole, as `Pipeline.unscopedRest`)

/-! ## @main as segments and as a chain of items (Lib/Pipeline/Regions.lean `θ_run_regions_kit`, `Pipeline.chain`) -/

/-- 49 host operations of @kernel (main_call0), in order. -/
abbrev hostOps0 : List (HloOp τ sig (Elt F)) :=
  ( StableHlo.TRef.nullary (.of main_call0_cst : StableHlo.TRef sig ⟨S64x256, .f32⟩) (fun i => FloatOps.ofBits .f32 (lit0 (S64x256.rowMajor i)))
  :: StableHlo.TRef.nullary (.of main_call0_cst_0 : StableHlo.TRef sig ⟨S16x64, .f32⟩) (fun i => FloatOps.ofBits .f32 (lit1 (S16x64.rowMajor i)))
  :: StableHlo.TRef.reshape (.of main_arg3 : StableHlo.TRef sig ⟨S3x3x256x256, .f32⟩) (.of main_call0_v0 : StableHlo.TRef sig ⟨S9x256x256, .f32⟩) (rfl : (.f32 : EltTy) = .f32) shapeCasts_S3x3x256x256_S9x256x256
  :: StableHlo.TRef.reshape (.of main_arg2 : StableHlo.TRef sig ⟨S256, .f32⟩) (.of main_call0_v1 : StableHlo.TRef sig ⟨S1x256, .f32⟩) (rfl : (.f32 : EltTy) = .f32) shapeCasts_S256_S1x256
  :: StableHlo.TRef.reshape (.of main_arg4 : StableHlo.TRef sig ⟨S256, .f32⟩) (.of main_call0_v2 : StableHlo.TRef sig ⟨S1x256, .f32⟩) (rfl : (.f32 : EltTy) = .f32) shapeCasts_S256_S1x256
  :: StableHlo.TRef.reshape (.of main_arg5 : StableHlo.TRef sig ⟨S1x1x256x2, .f32⟩) (.of main_call0_v3 : StableHlo.TRef sig ⟨S256x2, .f32⟩) (rfl : (.f32 : EltTy) = .f32) shapeCasts_S1x1x256x2_S256x2
  :: StableHlo.TRef.reshape (.of main_arg7 : StableHlo.TRef sig ⟨S1x1x256x4, .f32⟩) (.of main_call0_v4 : StableHlo.TRef sig ⟨S256x4, .f32⟩) (rfl : (.f32 : EltTy) = .f32) shapeCasts_S1x1x256x4_S256x4
  :: StableHlo.TRef.reshape (.of main_arg9 : StableHlo.TRef sig ⟨S1x1x256x1, .f32⟩) (.of main_call0_v5 : StableHlo.TRef sig ⟨S256x1, .f32⟩) (rfl : (.f32 : EltTy) = .f32) shapeCasts_S1x1x256x1_S256x1
  :: StableHlo.TRef.unary (.of main_arg11 : StableHlo.TRef sig ⟨S3, .f32⟩) (.of main_call0_v6 : StableHlo.TRef sig ⟨S1, .f32⟩) (extractStridedSlice S1 ![0] · slices_S3_S1_0)
  :: StableHlo.TRef.reshape (.of main_call0_v6 : StableHlo.TRef sig ⟨S1, .f32⟩) (.of main_call0_v7 : StableHlo.TRef sig ⟨S_, .f32⟩) (rfl : (.f32 : EltTy) = .f32) shapeCasts_S1_S_
  :: StableHlo.TRef.unary (.of main_call0_v7 : StableHlo.TRef sig ⟨S_, .f32⟩) (.of main_call0_v8 : StableHlo.TRef sig ⟨S256x4, .f32⟩) (broadcastInDim S256x4 ![] bcast_S_S256x4)
  :: StableHlo.TRef.binary (.of main_call0_v4 : StableHlo.TRef sig ⟨S256x4, .f32⟩) (.of main_call0_v8 : StableHlo.TRef sig ⟨S256x4, .f32⟩) (.of main_call0_v9 : StableHlo.TRef sig ⟨S256x4, .f32⟩) mulf
  :: StableHlo.TRef.nary (Ts := ![⟨S256x2, .f32⟩, ⟨S256x4, .f32⟩, ⟨S256x1, .f32⟩]) (Fin.cons (.of main_call0_v3 : StableHlo.TRef sig ⟨S256x2, .f32⟩) (Fin.cons (.of main_call0_v9 : StableHlo.TRef sig ⟨S256x4, .f32⟩) (Fin.cons (.of main_call0_v5 : StableHlo.TRef sig ⟨S256x1, .f32⟩) (fun k => k.elim0)))) (.of main_call0_v10 : StableHlo.TRef sig ⟨S256x7, .f32⟩) (fun u => (concatenate S256x7 1 [⟨S256x2, (u 0 : (⟨S256x2, .f32⟩ : BufTy).Contents (Elt F))⟩, ⟨S256x4, (u 1 : (⟨S256x4, .f32⟩ : BufTy).Contents (Elt F))⟩, ⟨S256x1, (u 2 : (⟨S256x1, .f32⟩ : BufTy).Contents (Elt F))⟩] concatenates_S256x2_S256x4_S256x1_S256x7_d1 : (⟨S256x7, .f32⟩ : BufTy).Contents (Elt F)))
  :: StableHlo.TRef.unary (.of main_arg11 : StableHlo.TRef sig ⟨S3, .f32⟩) (.of main_call0_v11 : StableHlo.TRef sig ⟨S1, .f32⟩) (extractStridedSlice S1 ![1] · slices_S3_S1_1)
  :: StableHlo.TRef.reshape (.of main_call0_v11 : StableHlo.TRef sig ⟨S1, .f32⟩) (.of main_call0_v12 : StableHlo.TRef sig ⟨S_, .f32⟩) (rfl : (.f32 : EltTy) = .f32) shapeCasts_S1_S_
  :: StableHlo.TRef.unary (.of main_call0_v12 : StableHlo.TRef sig ⟨S_, .f32⟩) (.of main_call0_v13 : StableHlo.TRef sig ⟨S256x4, .f32⟩) (broadcastInDim S256x4 ![] bcast_S_S256x4)
  :: StableHlo.TRef.binary (.of main_call0_v4 : StableHlo.TRef sig ⟨S256x4, .f32⟩) (.of main_call0_v13 : StableHlo.TRef sig ⟨S256x4, .f32⟩) (.of main_call0_v14 : StableHlo.TRef sig ⟨S256x4, .f32⟩) mulf
  :: StableHlo.TRef.nary (Ts := ![⟨S256x2, .f32⟩, ⟨S256x4, .f32⟩, ⟨S256x1, .f32⟩]) (Fin.cons (.of main_call0_v3 : StableHlo.TRef sig ⟨S256x2, .f32⟩) (Fin.cons (.of main_call0_v14 : StableHlo.TRef sig ⟨S256x4, .f32⟩) (Fin.cons (.of main_call0_v5 : StableHlo.TRef sig ⟨S256x1, .f32⟩) (fun k => k.elim0)))) (.of main_call0_v15 : StableHlo.TRef sig ⟨S256x7, .f32⟩) (fun u => (concatenate S256x7 1 [⟨S256x2, (u 0 : (⟨S256x2, .f32⟩ : BufTy).Contents (Elt F))⟩, ⟨S256x4, (u 1 : (⟨S256x4, .f32⟩ : BufTy).Contents (Elt F))⟩, ⟨S256x1, (u 2 : (⟨S256x1, .f32⟩ : BufTy).Contents (Elt F))⟩] concatenates_S256x2_S256x4_S256x1_S256x7_d1 : (⟨S256x7, .f32⟩ : BufTy).Contents (Elt F)))
  :: StableHlo.TRef.unary (.of main_arg11 : StableHlo.TRef sig ⟨S3, .f32⟩) (.of main_call0_v16 : StableHlo.TRef sig ⟨S1, .f32⟩) (extractStridedSlice S1 ![2] · slices_S3_S1_2)
  :: StableHlo.TRef.reshape (.of main_call0_v16 : StableHlo.TRef sig ⟨S1, .f32⟩) (.of main_call0_v17 : StableHlo.TRef sig ⟨S_, .f32⟩) (rfl : (.f32 : EltTy) = .f32) shapeCasts_S1_S_
  :: StableHlo.TRef.unary (.of main_call0_v17 : StableHlo.TRef sig ⟨S_, .f32⟩) (.of main_call0_v18 : StableHlo.TRef sig ⟨S256x4, .f32⟩) (broadcastInDim S256x4 ![] bcast_S_S256x4)
  :: StableHlo.TRef.binary (.of main_call0_v4 : StableHlo.TRef sig ⟨S256x4, .f32⟩) (.of main_call0_v18 : StableHlo.TRef sig ⟨S256x4, .f32⟩) (.of main_call0_v19 : StableHlo.TRef sig ⟨S256x4, .f32⟩) mulf
  :: StableHlo.TRef.nary (Ts := ![⟨S256x2, .f32⟩, ⟨S256x4, .f32⟩, ⟨S256x1, .f32⟩]) (Fin.cons (.of main_call0_v3 : StableHlo.TRef sig ⟨S256x2, .f32⟩) (Fin.cons (.of main_call0_v19 : StableHlo.TRef sig ⟨S256x4, .f32⟩) (Fin.cons (.of main_call0_v5 : StableHlo.TRef sig ⟨S256x1, .f32⟩) (fun k => k.elim0)))) (.of main_call0_v20 : StableHlo.TRef sig ⟨S256x7, .f32⟩) (fun u => (concatenate S256x7 1 [⟨S256x2, (u 0 : (⟨S256x2, .f32⟩ : BufTy).Contents (Elt F))⟩, ⟨S256x4, (u 1 : (⟨S256x4, .f32⟩ : BufTy).Contents (Elt F))⟩, ⟨S256x1, (u 2 : (⟨S256x1, .f32⟩ : BufTy).Contents (Elt F))⟩] concatenates_S256x2_S256x4_S256x1_S256x7_d1 : (⟨S256x7, .f32⟩ : BufTy).Contents (Elt F)))
  :: StableHlo.TRef.unary (.of main_call0_v10 : StableHlo.TRef sig ⟨S256x7, .f32⟩) (.of main_call0_v21 : StableHlo.TRef sig ⟨S1x256x7, .f32⟩) (broadcastInDim S1x256x7 ![1, 2] bcast_S256x7_S1x256x7_1_2)
  :: StableHlo.TRef.unary (.of main_call0_v15 : StableHlo.TRef sig ⟨S256x7, .f32⟩) (.of main_call0_v22 : StableHlo.TRef sig ⟨S1x256x7, .f32⟩) (broadcastInDim S1x256x7 ![1, 2] bcast_S256x7_S1x256x7_1_2)
  :: StableHlo.TRef.unary (.of main_call0_v20 : StableHlo.TRef sig ⟨S256x7, .f32⟩) (.of main_call0_v23 : StableHlo.TRef sig ⟨S1x256x7, .f32⟩) (broadcastInDim S1x256x7 ![1, 2] bcast_S256x7_S1x256x7_1_2)
  :: StableHlo.TRef.nary ![(.of main_call0_v21 : StableHlo.TRef sig ⟨S1x256x7, .f32⟩), (.of main_call0_v22 : StableHlo.TRef sig ⟨S1x256x7, .f32⟩), (.of main_call0_v23 : StableHlo.TRef sig ⟨S1x256x7, .f32⟩)] (.of main_call0_v24 : StableHlo.TRef sig ⟨S3x256x7, .f32⟩) (fun u => (concatenate S3x256x7 0 [⟨S1x256x7, (u 0 : (⟨S1x256x7, .f32⟩ : BufTy).Contents (Elt F))⟩, ⟨S1x256x7, (u 1 : (⟨S1x256x7, .f32⟩ : BufTy).Contents (Elt F))⟩, ⟨S1x256x7, (u 2 : (⟨S1x256x7, .f32⟩ : BufTy).Contents (Elt F))⟩] concatenates_S1x256x7_S1x256x7_S1x256x7_S3x256x7_d0 : (⟨S3x256x7, .f32⟩ : BufTy).Contents (Elt F)))
  :: StableHlo.TRef.unary (.of main_arg11 : StableHlo.TRef sig ⟨S3, .f32⟩) (.of main_call0_v25 : StableHlo.TRef sig ⟨S1, .f32⟩) (extractStridedSlice S1 ![0] · slices_S3_S1_0)
  :: StableHlo.TRef.reshape (.of main_call0_v25 : StableHlo.TRef sig ⟨S1, .f32⟩) (.of main_call0_v26 : StableHlo.TRef sig ⟨S_, .f32⟩) (rfl : (.f32 : EltTy) = .f32) shapeCasts_S1_S_
  :: StableHlo.TRef.unary (.of main_call0_v26 : StableHlo.TRef sig ⟨S_, .f32⟩) (.of main_call0_v27 : StableHlo.TRef sig ⟨S4, .f32⟩) (broadcastInDim S4 ![] bcast_S_S4)
  :: StableHlo.TRef.binary (.of main_arg8 : StableHlo.TRef sig ⟨S4, .f32⟩) (.of main_call0_v27 : StableHlo.TRef sig ⟨S4, .f32⟩) (.of main_call0_v28 : StableHlo.TRef sig ⟨S4, .f32⟩) mulf
  :: StableHlo.TRef.nary (Ts := ![⟨S2, .f32⟩, ⟨S4, .f32⟩, ⟨S1, .f32⟩]) (Fin.cons (.of main_arg6 : StableHlo.TRef sig ⟨S2, .f32⟩) (Fin.cons (.of main_call0_v28 : StableHlo.TRef sig ⟨S4, .f32⟩) (Fin.cons (.of main_arg10 : StableHlo.TRef sig ⟨S1, .f32⟩) (fun k => k.elim0)))) (.of main_call0_v29 : StableHlo.TRef sig ⟨S7, .f32⟩) (fun u => (concatenate S7 0 [⟨S2, (u 0 : (⟨S2, .f32⟩ : BufTy).Contents (Elt F))⟩, ⟨S4, (u 1 : (⟨S4, .f32⟩ : BufTy).Contents (Elt F))⟩, ⟨S1, (u 2 : (⟨S1, .f32⟩ : BufTy).Contents (Elt F))⟩] concatenates_S2_S4_S1_S7_d0 : (⟨S7, .f32⟩ : BufTy).Contents (Elt F)))
  :: StableHlo.TRef.reshape (.of main_call0_v29 : StableHlo.TRef sig ⟨S7, .f32⟩) (.of main_call0_v30 : StableHlo.TRef sig ⟨S1x7, .f32⟩) (rfl : (.f32 : EltTy) = .f32) shapeCasts_S7_S1x7
  :: StableHlo.TRef.unary (.of main_arg11 : StableHlo.TRef sig ⟨S3, .f32⟩) (.of main_call0_v31 : StableHlo.TRef sig ⟨S1, .f32⟩) (extractStridedSlice S1 ![1] · slices_S3_S1_1)
  :: StableHlo.TRef.reshape (.of main_call0_v31 : StableHlo.TRef sig ⟨S1, .f32⟩) (.of main_call0_v32 : StableHlo.TRef sig ⟨S_, .f32⟩) (rfl : (.f32 : EltTy) = .f32) shapeCasts_S1_S_
  :: StableHlo.TRef.unary (.of main_call0_v32 : StableHlo.TRef sig ⟨S_, .f32⟩) (.of main_call0_v33 : StableHlo.TRef sig ⟨S4, .f32⟩) (broadcastInDim S4 ![] bcast_S_S4)
  :: StableHlo.TRef.binary (.of main_arg8 : StableHlo.TRef sig ⟨S4, .f32⟩) (.of main_call0_v33 : StableHlo.TRef sig ⟨S4, .f32⟩) (.of main_call0_v34 : StableHlo.TRef sig ⟨S4, .f32⟩) mulf
  :: StableHlo.TRef.nary (Ts := ![⟨S2, .f32⟩, ⟨S4, .f32⟩, ⟨S1, .f32⟩]) (Fin.cons (.of main_arg6 : StableHlo.TRef sig ⟨S2, .f32⟩) (Fin.cons (.of main_call0_v34 : StableHlo.TRef sig ⟨S4, .f32⟩) (Fin.cons (.of main_arg10 : StableHlo.TRef sig ⟨S1, .f32⟩) (fun k => k.elim0)))) (.of main_call0_v35 : StableHlo.TRef sig ⟨S7, .f32⟩) (fun u => (concatenate S7 0 [⟨S2, (u 0 : (⟨S2, .f32⟩ : BufTy).Contents (Elt F))⟩, ⟨S4, (u 1 : (⟨S4, .f32⟩ : BufTy).Contents (Elt F))⟩, ⟨S1, (u 2 : (⟨S1, .f32⟩ : BufTy).Contents (Elt F))⟩] concatenates_S2_S4_S1_S7_d0 : (⟨S7, .f32⟩ : BufTy).Contents (Elt F)))
  :: StableHlo.TRef.reshape (.of main_call0_v35 : StableHlo.TRef sig ⟨S7, .f32⟩) (.of main_call0_v36 : StableHlo.TRef sig ⟨S1x7, .f32⟩) (rfl : (.f32 : EltTy) = .f32) shapeCasts_S7_S1x7
  :: StableHlo.TRef.unary (.of main_arg11 : StableHlo.TRef sig ⟨S3, .f32⟩) (.of main_call0_v37 : StableHlo.TRef sig ⟨S1, .f32⟩) (extractStridedSlice S1 ![2] · slices_S3_S1_2)
  :: StableHlo.TRef.reshape (.of main_call0_v37 : StableHlo.TRef sig ⟨S1, .f32⟩) (.of main_call0_v38 : StableHlo.TRef sig ⟨S_, .f32⟩) (rfl : (.f32 : EltTy) = .f32) shapeCasts_S1_S_
  :: StableHlo.TRef.unary (.of main_call0_v38 : StableHlo.TRef sig ⟨S_, .f32⟩) (.of main_call0_v39 : StableHlo.TRef sig ⟨S4, .f32⟩) (broadcastInDim S4 ![] bcast_S_S4)
  :: StableHlo.TRef.binary (.of main_arg8 : StableHlo.TRef sig ⟨S4, .f32⟩) (.of main_call0_v39 : StableHlo.TRef sig ⟨S4, .f32⟩) (.of main_call0_v40 : StableHlo.TRef sig ⟨S4, .f32⟩) mulf
  :: StableHlo.TRef.nary (Ts := ![⟨S2, .f32⟩, ⟨S4, .f32⟩, ⟨S1, .f32⟩]) (Fin.cons (.of main_arg6 : StableHlo.TRef sig ⟨S2, .f32⟩) (Fin.cons (.of main_call0_v40 : StableHlo.TRef sig ⟨S4, .f32⟩) (Fin.cons (.of main_arg10 : StableHlo.TRef sig ⟨S1, .f32⟩) (fun k => k.elim0)))) (.of main_call0_v41 : StableHlo.TRef sig ⟨S7, .f32⟩) (fun u => (concatenate S7 0 [⟨S2, (u 0 : (⟨S2, .f32⟩ : BufTy).Contents (Elt F))⟩, ⟨S4, (u 1 : (⟨S4, .f32⟩ : BufTy).Contents (Elt F))⟩, ⟨S1, (u 2 : (⟨S1, .f32⟩ : BufTy).Contents (Elt F))⟩] concatenates_S2_S4_S1_S7_d0 : (⟨S7, .f32⟩ : BufTy).Contents (Elt F)))
  :: StableHlo.TRef.reshape (.of main_call0_v41 : StableHlo.TRef sig ⟨S7, .f32⟩) (.of main_call0_v42 : StableHlo.TRef sig ⟨S1x7, .f32⟩) (rfl : (.f32 : EltTy) = .f32) shapeCasts_S7_S1x7
  :: StableHlo.TRef.unary (.of main_call0_v30 : StableHlo.TRef sig ⟨S1x7, .f32⟩) (.of main_call0_v43 : StableHlo.TRef sig ⟨S1x1x7, .f32⟩) (broadcastInDim S1x1x7 ![1, 2] bcast_S1x7_S1x1x7_1_2)
  :: StableHlo.TRef.unary (.of main_call0_v36 : StableHlo.TRef sig ⟨S1x7, .f32⟩) (.of main_call0_v44 : StableHlo.TRef sig ⟨S1x1x7, .f32⟩) (broadcastInDim S1x1x7 ![1, 2] bcast_S1x7_S1x1x7_1_2)
  :: StableHlo.TRef.unary (.of main_call0_v42 : StableHlo.TRef sig ⟨S1x7, .f32⟩) (.of main_call0_v45 : StableHlo.TRef sig ⟨S1x1x7, .f32⟩) (broadcastInDim S1x1x7 ![1, 2] bcast_S1x7_S1x1x7_1_2)
  :: StableHlo.TRef.nary ![(.of main_call0_v43 : StableHlo.TRef sig ⟨S1x1x7, .f32⟩), (.of main_call0_v44 : StableHlo.TRef sig ⟨S1x1x7, .f32⟩), (.of main_call0_v45 : StableHlo.TRef sig ⟨S1x1x7, .f32⟩)] (.of main_call0_v46 : StableHlo.TRef sig ⟨S3x1x7, .f32⟩) (fun u => (concatenate S3x1x7 0 [⟨S1x1x7, (u 0 : (⟨S1x1x7, .f32⟩ : BufTy).Contents (Elt F))⟩, ⟨S1x1x7, (u 1 : (⟨S1x1x7, .f32⟩ : BufTy).Contents (Elt F))⟩, ⟨S1x1x7, (u 2 : (⟨S1x1x7, .f32⟩ : BufTy).Contents (Elt F))⟩] concatenates_S1x1x7_S1x1x7_S1x1x7_S3x1x7_d0 : (⟨S3x1x7, .f32⟩ : BufTy).Contents (Elt F)))
  :: [] )
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.nullary_bufs_sub .., StableHlo.reshape_bufs_sub .., StableHlo.reshape_bufs_sub .., StableHlo.reshape_bufs_sub .., StableHlo.reshape_bufs_sub .., StableHlo.reshape_bufs_sub .., StableHlo.reshape_bufs_sub .., StableHlo.unary_bufs_sub .., StableHlo.reshape_bufs_sub .., StableHlo.unary_bufs_sub .., StableHlo.binary_bufs_sub .., StableHlo.nary_bufs_sub .., StableHlo.unary_bufs_sub .., StableHlo.reshape_bufs_sub .., StableHlo.unary_bufs_sub .., StableHlo.binary_bufs_sub .., StableHlo.nary_bufs_sub .., StableHlo.unary_bufs_sub .., StableHlo.reshape_bufs_sub .., StableHlo.unary_bufs_sub .., StableHlo.binary_bufs_sub .., StableHlo.nary_bufs_sub .., StableHlo.unary_bufs_sub .., StableHlo.unary_bufs_sub .., StableHlo.unary_bufs_sub .., StableHlo.nary_bufs_sub .., StableHlo.unary_bufs_sub .., StableHlo.reshape_bufs_sub .., StableHlo.unary_bufs_sub .., StableHlo.binary_bufs_sub .., StableHlo.nary_bufs_sub .., StableHlo.reshape_bufs_sub .., StableHlo.unary_bufs_sub .., StableHlo.reshape_bufs_sub .., StableHlo.unary_bufs_sub .., StableHlo.binary_bufs_sub .., StableHlo.nary_bufs_sub .., StableHlo.reshape_bufs_sub .., StableHlo.unary_bufs_sub .., StableHlo.reshape_bufs_sub .., StableHlo.unary_bufs_sub .., StableHlo.binary_bufs_sub .., StableHlo.nary_bufs_sub .., StableHlo.reshape_bufs_sub .., StableHlo.unary_bufs_sub .., StableHlo.unary_bufs_sub .., StableHlo.unary_bufs_sub .., StableHlo.nary_bufs_sub ..⟩
/-- 1 host operation of @kernel (main_call0), in order. -/
abbrev hostOps1 : List (HloOp τ sig (Elt F)) :=
  [ StableHlo.TRef.unary (.of main_call0_v47 : StableHlo.TRef sig ⟨S128x336x7, .f32⟩) (.of main_v0 : StableHlo.TRef sig ⟨S128x7x336, .f32⟩) (transpose S128x7x336 [0, 2, 1] · transposes_S128x336x7_S128x7x336_0_2_1) ]
/-- Each touches TensorCore references only (`HostSeg.ofOps` over `StableHlo.tcRefs`, or a subset by `sub_ucRefs`). -/
theorem hostOps1_sub : (hostOps1 : List (HloOp τ sig (Elt F))).Forall fun op => op.bufs ⊆ StableHlo.tcRefs τ sig :=
  StableHlo.unary_bufs_sub ..
/-- This statement, from @kernel (main_call0), is the chain of its own items: each stretch of the function's operations aligned
    one at a time, every other item taken whole, then `chain_rfl`. -/
theorem main_chain_main_call0 : fn_kernel.body (F := F) (.of main_arg0) (.of main_arg1) (.of main_arg2) (.of main_arg3) (.of main_arg4) (.of main_arg5) (.of main_arg6) (.of main_arg7) (.of main_arg8) (.of main_arg9) (.of main_arg10) (.of main_arg11) main_call0 = (Pipeline.chain
  [ StableHlo.seq hostOps0,
    Prog.lift (.customCall (Pipeline.entry 0) ()),
    StableHlo.seq hostOps1 ] : Prog (TpuEff nD τ sig (Elt F) (Pipeline.Sig Λ₀ (Fin 1) fun p => (pcfgs (F := F) p).Adm) .tc) PUnit) := by
  rewrite [StableHlo.chain_seq_cons, Pipeline.chain_cons, StableHlo.chain_seq_cons]
  chain_rfl

/-- `main_chain` with each call that gives several items as one item, so that every statement has its own item. -/
theorem main_chain_calls (c : Dev nD) : main (F := F) c = (Pipeline.chain
  [ fn_kernel.body (F := F) (.of main_arg0) (.of main_arg1) (.of main_arg2) (.of main_arg3) (.of main_arg4) (.of main_arg5) (.of main_arg6) (.of main_arg7) (.of main_arg8) (.of main_arg9) (.of main_arg10) (.of main_arg11) main_call0 ] : Prog (TpuEff nD τ sig (Elt F) (Pipeline.Sig Λ₀ (Fin 1) fun p => (pcfgs (F := F) p).Adm) .tc) PUnit) := by
  rewrite [Pipeline.chain_cons]
  chain_rfl

/-- A chain of one item is that item. -/
theorem chain_single {E : Type → Type} (q : Idealize.SL.Sem.Prog E PUnit) : Pipeline.chain [q] = q := by
  rw [Pipeline.chain_cons, Pipeline.chain_nil]
  exact bind_pure_unit

/-- `main` is the chain of its items (`Pipeline.chain`): operation stretches, regions, loops and branches in
    order, a module-local function called from it a stretch of its own or several items. It follows from
    `main_chain_calls`, in which each call that gives several items is one item, and from each such call's own chain, by
    the monad laws. -/
theorem main_chain (c : Dev nD) : main (F := F) c = (Pipeline.chain
  [ StableHlo.seq hostOps0,
    Prog.lift (.customCall (Pipeline.entry 0) ()),
    StableHlo.seq hostOps1 ] : Prog (TpuEff nD τ sig (Elt F) (Pipeline.Sig Λ₀ (Fin 1) fun p => (pcfgs (F := F) p).Adm) .tc) PUnit) := by
  exact (main_chain_calls c).trans
    ((congrArg (fun q => Pipeline.chain [q]) main_chain_main_call0).trans (chain_single _))

end Cert.KernelIdeal.Setup

end
-- ==== Proof.KernelIdealRun.lean ====
/- The run of `KernelIdeal`: one grid step's obligation (the body leaves every staged input as it was and the output block as
   three stores, `out0_9`), then the launch between its two lines of host operations. -/
module

public import proofs.«01_k».proof.Proof.KernelIdealSetup
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.Pipeline.FrameTail
public import Idealize.ShloMosaic.Lib.Pipeline.FrameSuffix

@[expose] public section

set_option maxRecDepth 16384

noncomputable section

namespace Cert.KernelIdeal.Body

open Cert.KernelIdeal Cert.KernelIdeal.Gen Cert.KernelIdeal.Setup
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a buffer holds when the launch begins: the arguments, and what the host operations before it computed. -/
abbrev V (c : Dev nD) (b : Ref sig .tc) : Buf (Elt F) ((c : Thread nD τ).loc b) := StableHlo.after hostOps0 (fun b => m (c, b)) b

/-- The block of window `w` at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

abbrev r0_0 : Rect S16x256x384 := Rect.unit (s := S16x256x384) ![0, 0, 0] S16x256x384.size inb_S16x256x384_S16x256x384_0_0_0
abbrev r0_1 : Rect S384x256 := Rect.unit (s := S384x256) ![0, 0] S384x256.size inb_S384x256_S384x256_0_0
abbrev r0_2 : Rect S1x256 := Rect.unit (s := S1x256) ![0, 0] S1x256.size inb_S1x256_S1x256_0_0
abbrev r0_3 : Rect S9x256x256 := Rect.unit (s := S9x256x256) ![0, 0, 0] S1x256x256.size inb_S9x256x256_S1x256x256_0_0_0
abbrev r0_4 : Rect S9x256x256 := Rect.unit (s := S9x256x256) ![1, 0, 0] S1x256x256.size inb_S9x256x256_S1x256x256_1_0_0
abbrev r0_5 : Rect S9x256x256 := Rect.unit (s := S9x256x256) ![2, 0, 0] S1x256x256.size inb_S9x256x256_S1x256x256_2_0_0
abbrev r0_6 : Rect S9x256x256 := Rect.unit (s := S9x256x256) ![3, 0, 0] S1x256x256.size inb_S9x256x256_S1x256x256_3_0_0
abbrev r0_7 : Rect S9x256x256 := Rect.unit (s := S9x256x256) ![4, 0, 0] S1x256x256.size inb_S9x256x256_S1x256x256_4_0_0
abbrev r0_8 : Rect S9x256x256 := Rect.unit (s := S9x256x256) ![5, 0, 0] S1x256x256.size inb_S9x256x256_S1x256x256_5_0_0
abbrev r0_9 : Rect S9x256x256 := Rect.unit (s := S9x256x256) ![6, 0, 0] S1x256x256.size inb_S9x256x256_S1x256x256_6_0_0
abbrev r0_10 : Rect S9x256x256 := Rect.unit (s := S9x256x256) ![7, 0, 0] S1x256x256.size inb_S9x256x256_S1x256x256_7_0_0
abbrev r0_11 : Rect S9x256x256 := Rect.unit (s := S9x256x256) ![8, 0, 0] S1x256x256.size inb_S9x256x256_S1x256x256_8_0_0
abbrev r0_12 : Rect S3x256x7 := Rect.unit (s := S3x256x7) ![0, 0, 0] S1x256x7.size inb_S3x256x7_S1x256x7_0_0_0
abbrev r0_13 : Rect S3x1x7 := Rect.unit (s := S3x1x7) ![0, 0, 0] S1x1x7.size inb_S3x1x7_S1x1x7_0_0_0
abbrev r0_14 : Rect S64x256 := Rect.unit (s := S64x256) ![0, 0] S64x256.size inb_S64x256_S64x256_0_0
abbrev r0_15 : Rect S3x256x7 := Rect.unit (s := S3x256x7) ![1, 0, 0] S1x256x7.size inb_S3x256x7_S1x256x7_1_0_0
abbrev r0_16 : Rect S3x1x7 := Rect.unit (s := S3x1x7) ![1, 0, 0] S1x1x7.size inb_S3x1x7_S1x1x7_1_0_0
abbrev r0_17 : Rect S16x64 := Rect.unit (s := S16x64) ![0, 0] S16x64.size inb_S16x64_S16x64_0_0
abbrev r0_18 : Rect S3x256x7 := Rect.unit (s := S3x256x7) ![2, 0, 0] S1x256x7.size inb_S3x256x7_S1x256x7_2_0_0
abbrev r0_19 : Rect S3x1x7 := Rect.unit (s := S3x1x7) ![2, 0, 0] S1x1x7.size inb_S3x1x7_S1x1x7_2_0_0
abbrev r0_20 : Rect S16x336x7 := Rect.unit (s := S16x336x7) ![0, 0, 0] S16x256x7.size inb_S16x336x7_S16x256x7_0_0_0
abbrev r0_21 : Rect S16x336x7 := Rect.unit (s := S16x336x7) ![0, 256, 0] S16x64x7.size inb_S16x336x7_S16x64x7_0_256_0
abbrev r0_22 : Rect S16x336x7 := Rect.unit (s := S16x336x7) ![0, 320, 0] S16x16x7.size inb_S16x336x7_S16x16x7_0_320_0

/-- The output block after one grid step: its three stores, the last one first. -/
def out0_9 (x0 : Vec F S16x256x384 .f32) (x1 : Vec F S384x256 .f32) (x2 : Vec F S1x256 .f32) (x3 : Vec F S9x256x256 .f32) (x4 : Vec F S1x256 .f32) (x5 : Vec F S3x256x7 .f32) (x6 : Vec F S3x1x7 .f32) (x7 : Vec F S64x256 .f32) (x8 : Vec F S16x64 .f32) : Vec F S16x336x7 .f32 :=
  View.canon [⟨r0_22, k0_pay54 (k0_pay51 (k0_pay36 (k0_pay18 (k0_pay1 (View.ld x0 r0_0) (View.ld x1 r0_1) (View.ld x2 r0_2)) (View.ld x7 r0_14)) (View.ld x8 r0_17) (k0_pay32 (k0_pay18 (k0_pay1 (View.ld x0 r0_0) (View.ld x1 r0_1) (View.ld x2 r0_2)) (View.ld x7 r0_14)) (View.ld x8 r0_17)) (k0_pay33 (k0_pay18 (k0_pay1 (View.ld x0 r0_0) (View.ld x1 r0_1) (View.ld x2 r0_2)) (View.ld x7 r0_14)) (View.ld x8 r0_17)) (k0_pay34 (k0_pay18 (k0_pay1 (View.ld x0 r0_0) (View.ld x1 r0_1) (View.ld x2 r0_2)) (View.ld x7 r0_14)) (View.ld x8 r0_17)) (k0_pay35 (k0_pay18 (k0_pay1 (View.ld x0 r0_0) (View.ld x1 r0_1) (View.ld x2 r0_2)) (View.ld x7 r0_14)))) (k0_pay41 k0_pay37 k0_pay38 k0_pay39) (k0_pay42 k0_pay37 k0_pay38 k0_pay39) (k0_pay48 (k0_pay36 (k0_pay18 (k0_pay1 (View.ld x0 r0_0) (View.ld x1 r0_1) (View.ld x2 r0_2)) (View.ld x7 r0_14)) (View.ld x8 r0_17) (k0_pay32 (k0_pay18 (k0_pay1 (View.ld x0 r0_0) (View.ld x1 r0_1) (View.ld x2 r0_2)) (View.ld x7 r0_14)) (View.ld x8 r0_17)) (k0_pay33 (k0_pay18 (k0_pay1 (View.ld x0 r0_0) (View.ld x1 r0_1) (View.ld x2 r0_2)) (View.ld x7 r0_14)) (View.ld x8 r0_17)) (k0_pay34 (k0_pay18 (k0_pay1 (View.ld x0 r0_0) (View.ld x1 r0_1) (View.ld x2 r0_2)) (View.ld x7 r0_14)) (View.ld x8 r0_17)) (k0_pay35 (k0_pay18 (k0_pay1 (View.ld x0 r0_0) (View.ld x1 r0_1) (View.ld x2 r0_2)) (View.ld x7 r0_14)))) (k0_pay42 k0_pay37 k0_pay38 k0_pay39) (k0_pay45 (k0_pay36 (k0_pay18 (k0_pay1 (View.ld x0 r0_0) (View.ld x1 r0_1) (View.ld x2 r0_2)) (View.ld x7 r0_14)) (View.ld x8 r0_17) (k0_pay32 (k0_pay18 (k0_pay1 (View.ld x0 r0_0) (View.ld x1 r0_1) (View.ld x2 r0_2)) (View.ld x7 r0_14)) (View.ld x8 r0_17)) (k0_pay33 (k0_pay18 (k0_pay1 (View.ld x0 r0_0) (View.ld x1 r0_1) (View.ld x2 r0_2)) (View.ld x7 r0_14)) (View.ld x8 r0_17)) (k0_pay34 (k0_pay18 (k0_pay1 (View.ld x0 r0_0) (View.ld x1 r0_1) (View.ld x2 r0_2)) (View.ld x7 r0_14)) (View.ld x8 r0_17)) (k0_pay35 (k0_pay18 (k0_pay1 (View.ld x0 r0_0) (View.ld x1 r0_1) (View.ld x2 r0_2)) (View.ld x7 r0_14)))) (k0_pay41 k0_pay37 k0_pay38 k0_pay39) (k0_pay42 k0_pay37 k0_pay38 k0_pay39) (k0_pay43 (F := F)) (k0_pay44 (k0_pay36 (k0_pay18 (k0_pay1 (View.ld x0 r0_0) (View.ld x1 r0_1) (View.ld x2 r0_2)) (View.ld x7 r0_14)) (View.ld x8 r0_17) (k0_pay32 (k0_pay18 (k0_pay1 (View.ld x0 r0_0) (View.ld x1 r0_1) (View.ld x2 r0_2)) (View.ld x7 r0_14)) (View.ld x8 r0_17)) (k0_pay33 (k0_pay18 (k0_pay1 (View.ld x0 r0_0) (View.ld x1 r0_1) (View.ld x2 r0_2)) (View.ld x7 r0_14)) (View.ld x8 r0_17)) (k0_pay34 (k0_pay18 (k0_pay1 (View.ld x0 r0_0) (View.ld x1 r0_1) (View.ld x2 r0_2)) (View.ld x7 r0_14)) (View.ld x8 r0_17)) (k0_pay35 (k0_pay18 (k0_pay1 (View.ld x0 r0_0) (View.ld x1 r0_1) (View.ld x2 r0_2)) (View.ld x7 r0_14))))) (View.ld x3 r0_3) (View.ld x3 r0_4)) (k0_pay46 (k0_pay36 (k0_pay18 (k0_pay1 (View.ld x0 r0_0) (View.ld x1 r0_1) (View.ld x2 r0_2)) (View.ld x7 r0_14)) (View.ld x8 r0_17) (k0_pay32 (k0_pay18 (k0_pay1 (View.ld x0 r0_0) (View.ld x1 r0_1) (View.ld x2 r0_2)) (View.ld x7 r0_14)) (View.ld x8 r0_17)) (k0_pay33 (k0_pay18 (k0_pay1 (View.ld x0 r0_0) (View.ld x1 r0_1) (View.ld x2 r0_2)) (View.ld x7 r0_14)) (View.ld x8 r0_17)) (k0_pay34 (k0_pay18 (k0_pay1 (View.ld x0 r0_0) (View.ld x1 r0_1) (View.ld x2 r0_2)) (View.ld x7 r0_14)) (View.ld x8 r0_17)) (k0_pay35 (k0_pay18 (k0_pay1 (View.ld x0 r0_0) (View.ld x1 r0_1) (View.ld x2 r0_2)) (View.ld x7 r0_14)))) (k0_pay41 k0_pay37 k0_pay38 k0_pay39) (k0_pay42 k0_pay37 k0_pay38 k0_pay39)) (k0_pay47 (View.ld x3 r0_5)) (constant S256x256 .f32 0x00000000#32) (View.ld x3 r0_6) (View.ld x3 r0_7) (View.ld x3 r0_8)) (k0_pay49 (k0_pay36 (k0_pay18 (k0_pay1 (View.ld x0 r0_0) (View.ld x1 r0_1) (View.ld x2 r0_2)) (View.ld x7 r0_14)) (View.ld x8 r0_17) (k0_pay32 (k0_pay18 (k0_pay1 (View.ld x0 r0_0) (View.ld x1 r0_1) (View.ld x2 r0_2)) (View.ld x7 r0_14)) (View.ld x8 r0_17)) (k0_pay33 (k0_pay18 (k0_pay1 (View.ld x0 r0_0) (View.ld x1 r0_1) (View.ld x2 r0_2)) (View.ld x7 r0_14)) (View.ld x8 r0_17)) (k0_pay34 (k0_pay18 (k0_pay1 (View.ld x0 r0_0) (View.ld x1 r0_1) (View.ld x2 r0_2)) (View.ld x7 r0_14)) (View.ld x8 r0_17)) (k0_pay35 (k0_pay18 (k0_pay1 (View.ld x0 r0_0) (View.ld x1 r0_1) (View.ld x2 r0_2)) (View.ld x7 r0_14))))) (Scalar.ofBits .f32 0x00000000#32) (k0_pay50 (k0_pay41 k0_pay37 k0_pay38 k0_pay39) (k0_pay42 k0_pay37 k0_pay38 k0_pay39)) (View.ld x3 r0_9) (View.ld x3 r0_10) (View.ld x3 r0_11) (View.ld x4 r0_2)) (Scalar.ofBits .f32 0x00000000#32) (View.ld x5 r0_18) (View.ld x6 r0_19)⟩,
    ⟨r0_21, k0_pay53 (k0_pay31 (k0_pay28 (k0_pay18 (k0_pay1 (View.ld x0 r0_0) (View.ld x1 r0_1) (View.ld x2 r0_2)) (View.ld x7 r0_14)) (k0_pay20 (iota .tc S1024x1 32 [0] iota_S1024x1_d0_w32) 64#32) (k0_pay22 (Scalar.select (Scalar.cmpi .eq 8#32 0#32) 1#32 8#32) (k0_pay21 (iota .tc S1024x1 32 [0] iota_S1024x1_d0_w32) 64#32) 0#32) (k0_pay26 (k0_pay18 (k0_pay1 (View.ld x0 r0_0) (View.ld x1 r0_1) (View.ld x2 r0_2)) (View.ld x7 r0_14)) (k0_pay20 (iota .tc S1024x1 32 [0] iota_S1024x1_d0_w32) 64#32) (k0_pay22 (Scalar.select (Scalar.cmpi .eq 8#32 0#32) 1#32 8#32) (k0_pay21 (iota .tc S1024x1 32 [0] iota_S1024x1_d0_w32) 64#32) 0#32) (k0_pay23 (k0_pay18 (k0_pay1 (View.ld x0 r0_0) (View.ld x1 r0_1) (View.ld x2 r0_2)) (View.ld x7 r0_14)) (k0_pay20 (iota .tc S1024x1 32 [0] iota_S1024x1_d0_w32) 64#32) (Scalar.select (Scalar.cmpi .eq 8#32 0#32) 1#32 8#32) (k0_pay21 (iota .tc S1024x1 32 [0] iota_S1024x1_d0_w32) 64#32) 0#32 (View.ld x3 r0_3) (View.ld x3 r0_4)) (k0_pay24 (k0_pay18 (k0_pay1 (View.ld x0 r0_0) (View.ld x1 r0_1) (View.ld x2 r0_2)) (View.ld x7 r0_14))) (k0_pay25 (k0_pay18 (k0_pay1 (View.ld x0 r0_0) (View.ld x1 r0_1) (View.ld x2 r0_2)) (View.ld x7 r0_14))) (View.ld x3 r0_5) (View.ld x3 r0_6) (View.ld x3 r0_7)) (k0_pay27 (k0_pay18 (k0_pay1 (View.ld x0 r0_0) (View.ld x1 r0_1) (View.ld x2 r0_2)) (View.ld x7 r0_14)) (k0_pay22 (Scalar.select (Scalar.cmpi .eq 8#32 0#32) 1#32 8#32) (k0_pay21 (iota .tc S1024x1 32 [0] iota_S1024x1_d0_w32) 64#32) 0#32)) (View.ld x3 r0_8) (View.ld x3 r0_9) (View.ld x3 r0_10)) (k0_pay29 (k0_pay18 (k0_pay1 (View.ld x0 r0_0) (View.ld x1 r0_1) (View.ld x2 r0_2)) (View.ld x7 r0_14))) (k0_pay30 (k0_pay20 (iota .tc S1024x1 32 [0] iota_S1024x1_d0_w32) 64#32) (k0_pay22 (Scalar.select (Scalar.cmpi .eq 8#32 0#32) 1#32 8#32) (k0_pay21 (iota .tc S1024x1 32 [0] iota_S1024x1_d0_w32) 64#32) 0#32)) (Scalar.ofBits .f32 0x00000000#32) (View.ld x3 r0_11) (View.ld x4 r0_2) (View.ld x5 r0_15) (View.ld x6 r0_16))⟩,
    ⟨r0_20, k0_pay52 (k0_pay17 (k0_pay14 (k0_pay1 (View.ld x0 r0_0) (View.ld x1 r0_1) (View.ld x2 r0_2)) (k0_pay6 k0_pay2 16#32 k0_pay3 k0_pay4 k0_pay5) (k0_pay7 k0_pay2) (k0_pay12 (k0_pay1 (View.ld x0 r0_0) (View.ld x1 r0_1) (View.ld x2 r0_2)) (k0_pay6 k0_pay2 16#32 k0_pay3 k0_pay4 k0_pay5) (k0_pay7 k0_pay2) (k0_pay11 (k0_pay1 (View.ld x0 r0_0) (View.ld x1 r0_1) (View.ld x2 r0_2)) (k0_pay6 k0_pay2 16#32 k0_pay3 k0_pay4 k0_pay5) (k0_pay7 k0_pay2) (k0_pay8 (k0_pay1 (View.ld x0 r0_0) (View.ld x1 r0_1) (View.ld x2 r0_2)) k0_pay2 16#32 k0_pay3 k0_pay4 k0_pay5 (View.ld x3 r0_3)) (k0_pay9 (k0_pay1 (View.ld x0 r0_0) (View.ld x1 r0_1) (View.ld x2 r0_2))) (k0_pay10 (k0_pay1 (View.ld x0 r0_0) (View.ld x1 r0_1) (View.ld x2 r0_2))) (View.ld x3 r0_4) (View.ld x3 r0_5) (View.ld x3 r0_6)) (View.ld x3 r0_7) (View.ld x3 r0_8) (View.ld x3 r0_9)) (k0_pay13 (k0_pay1 (View.ld x0 r0_0) (View.ld x1 r0_1) (View.ld x2 r0_2)) (k0_pay6 k0_pay2 16#32 k0_pay3 k0_pay4 k0_pay5)) (View.ld x3 r0_10) (View.ld x3 r0_11) (View.ld x4 r0_2) (View.ld x5 r0_12) (View.ld x6 r0_13)) (iota .tc S1x7 32 [1] iota_S1x7_d1_w32) k0_pay15 k0_pay16)⟩]

/-- The three stores fill the output block. -/
theorem cover0_9 (p0 : Vec F S16x16x7 .f32) (p1 : Vec F S16x64x7 .f32) (p2 : Vec F S16x256x7 .f32) (y : S16x336x7.Idx) :
    ∃ pc ∈ ([⟨r0_22, p0⟩, ⟨r0_21, p1⟩, ⟨r0_20, p2⟩] : List (View.Piece (Elt F) S16x336x7 .f32)), y ∈ pc.1.set :=
  View.cover_of_tiledBy [⟨r0_22, p0⟩, ⟨r0_21, p1⟩, ⟨r0_20, p2⟩] ![16, 16, 7] (by sl_kernel_rfl) y

set_option maxHeartbeats 1000000 in
/-- The body, run once over any contents of its input blocks, keeps them and leaves `out0_9` of them in the output block. -/
theorem sound_kernel (c : Dev nD) (E : Set ℕ) (i : grid0.Coords) (arg1 : Memref sig .tc .vmem S16x256x384 .f32) (harg1 : arg1.IsWhole) (arg2 : Memref sig .tc .vmem S384x256 .f32) (harg2 : arg2.IsWhole) (arg3 : Memref sig .tc .vmem S1x256 .f32) (harg3 : arg3.IsWhole) (arg4 : Memref sig .tc .vmem S9x256x256 .f32) (harg4 : arg4.IsWhole) (arg5 : Memref sig .tc .vmem S1x256 .f32) (harg5 : arg5.IsWhole) (arg6 : Memref sig .tc .vmem S3x256x7 .f32) (harg6 : arg6.IsWhole) (arg7 : Memref sig .tc .vmem S3x1x7 .f32) (harg7 : arg7.IsWhole) (arg8 : Memref sig .tc .vmem S64x256 .f32) (harg8 : arg8.IsWhole) (arg9 : Memref sig .tc .vmem S16x64 .f32) (harg9 : arg9.IsWhole) (arg10 : Memref sig .tc .vmem S16x336x7 .f32) (harg10 : arg10.IsWhole)
    (x0 : Vec F S16x256x384 .f32) (x1 : Vec F S384x256 .f32) (x2 : Vec F S1x256 .f32) (x3 : Vec F S9x256x256 .f32) (x4 : Vec F S1x256 .f32) (x5 : Vec F S3x256x7 .f32) (x6 : Vec F S3x1x7 .f32) (x7 : Vec F S64x256 .f32) (x8 : Vec F S16x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__detector_body i arg1 harg1 arg2 harg2 arg3 harg3 arg4 harg4 arg5 harg5 arg6 harg6 arg7 harg7 arg8 harg8 arg9 harg9 arg10 harg10) K := by
  simp only [cc0__detector_body_eq_skeleton]; unfold cc0__detector_body_skel
  simp only [k0_part17_eq_skeleton]; unfold k0_part17_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  simp only [k0_part10_eq_skeleton]; unfold k0_part10_skel
  simp only [k0_part11_eq_skeleton]; unfold k0_part11_skel
  simp only [k0_part12_eq_skeleton]; unfold k0_part12_skel
  simp only [k0_part13_eq_skeleton]; unfold k0_part13_skel
  simp only [k0_part14_eq_skeleton]; unfold k0_part14_skel
  simp only [k0_part15_eq_skeleton]; unfold k0_part15_skel
  simp only [k0_part16_eq_skeleton]; unfold k0_part16_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  dsimp only
  refine (View.read_writes_eq_canon _ _ _ (cover0_9 _ _ _)).trans ?_
  rfl

/-- What each window holds after each grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body meets the launch's obligation at every grid point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- The run: `main` terminates; every unscoped buffer is the tail `hostOps1` of `Pipeline.afterRegion` (a window's array: `(dats m 0 c).arrAt w cfg0.N`). -/
theorem run_main : θ_run defs (onTc (τ := τ) (main (F := F))) (s₀ m ρ) fun r =>
    ∀ (c : Dev nD) (b : Ref sig .tc), b.isScoped = false → r.2.mem ((c.tc : Thread nD τ).loc b)
      = StableHlo.after hostOps1 (Pipeline.afterRegion (dats m 0 c) (StableHlo.after hostOps0 (StableHlo.launchContents m c))) (Proc.devRef .tc b) :=
  Pipeline.θ_run_frame_tail cfgs (dats m) (0 : Fin 1) launch0 defs₀ Variants.none m ρ main hostOps0 hostOps1 hostOps0_sub hostOps1_sub
    main_chain
    (hbody := fun c => (body_obligation m c).loose) (hshare := fun c => (dats m 0 c).share_full fun _ => rfl)
    (howed := fun _ _ => rfl) (hA := fun _ _ => rfl) (hΦ := fun _ _ => rfl)

/-- Every host operation before the launch determines its results. -/
theorem hostOps0_fresh : ∀ op ∈ (hostOps0 : List (HloOp τ sig (Elt F))), op.fresh = ∅ := by
  intro _ h
  (repeat (cases h with | head => rfl | tail _ h => ?_))
  exact nomatch h

set_option backward.isDefEq.respectTransparency.types false in
/-- The same run, read at the counters: every semaphore ends at zero. -/
theorem run_sems : θ_run defs (onTc (τ := τ) (main (F := F))) (s₀ m ρ) fun r => r.2.sem = fun _ => 0 :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := fun c => StableHlo.after hostOps0 (StableHlo.launchContents m c)) (opss := [hostOps1])
    (hsub := fun ops hops op hop => by
      obtain rfl := List.mem_singleton.mp hops
      exact Pipeline.sub_tailRefs _ _ op (List.forall_iff_forall_mem.mp hostOps1_sub op hop) fun k => k.elim0)
    (hfresh := fun ops hops op hop => by
      obtain rfl := List.mem_singleton.mp hops
      obtain rfl := List.mem_singleton.mp hop
      rfl)
    (hkeep := fun ops hops op hop => by
      obtain rfl := List.mem_singleton.mp hops
      obtain rfl := List.mem_singleton.mp hop
      intro w hw
      exact absurd (Proc.devRef_injective _ (Finset.mem_singleton.mp hw)) (by clear hw; revert w; decide))
    (hmain := Pipeline.hmain_around cfgs 0 defs₀ Variants.none m main [hostOps0] [hostOps1]
      hostOps0_sub (show List.Forall _ hostOps0 from List.forall_iff_forall_mem.mpr hostOps0_fresh) main_chain)
    (hA := fun _ _ => rfl) (hΦ := fun _ _ => rfl) (Q' := fun r => r.2.sem = fun _ => 0) (hQ' := fun _ h => h.2)

/-- What the host operations before the launch write, in order. -/
def outs0 : List (Ref sig .tc) :=
  [ main_call0_cst, main_call0_cst_0, main_call0_v0, main_call0_v1, main_call0_v2, main_call0_v3, main_call0_v4,
    main_call0_v5, main_call0_v6, main_call0_v7, main_call0_v8, main_call0_v9, main_call0_v10, main_call0_v11,
    main_call0_v12, main_call0_v13, main_call0_v14, main_call0_v15, main_call0_v16, main_call0_v17, main_call0_v18,
    main_call0_v19, main_call0_v20, main_call0_v21, main_call0_v22, main_call0_v23, main_call0_v24, main_call0_v25,
    main_call0_v26, main_call0_v27, main_call0_v28, main_call0_v29, main_call0_v30, main_call0_v31, main_call0_v32,
    main_call0_v33, main_call0_v34, main_call0_v35, main_call0_v36, main_call0_v37, main_call0_v38, main_call0_v39,
    main_call0_v40, main_call0_v41, main_call0_v42, main_call0_v43, main_call0_v44, main_call0_v45, main_call0_v46 ]

/-- Each host operation before the launch writes the one buffer `outs0` names. -/
theorem hostOps0_writes : (hostOps0 : List (HloOp τ sig (Elt F))).map HloOp.writes = outs0.map fun r => {Proc.devRef .tc r} := rfl

/-- The host operation after the launch writes the result. -/
theorem hostOps1_writes : (hostOps1 : List (HloOp τ sig (Elt F))).map HloOp.writes = [main_v0].map fun r => {Proc.devRef .tc r} := rfl

/-- A line of operations that writes the buffers `outs`, one each, leaves every other buffer as it was. -/
theorem line_kept (ops : List (HloOp τ sig (Elt F))) (outs : List (Ref sig .tc)) (h : ops.map HloOp.writes = outs.map fun r => {Proc.devRef .tc r})
    (W : Valuation τ sig (Elt F)) (b : Ref sig .tc) (hb : b ∉ outs) : StableHlo.after ops W (Proc.devRef .tc b) = W (Proc.devRef .tc b) := by
  refine StableHlo.after_of_forall_not_mem ops W fun op hop hw => ?_
  have h1 : op.writes ∈ outs.map fun r => ({Proc.devRef .tc r} : Finset (DevRef τ sig)) := h ▸ List.mem_map_of_mem hop
  obtain ⟨r, hr, e⟩ := List.mem_map.mp h1
  rw [← e, Finset.mem_singleton] at hw
  exact hb (Proc.devRef_injective _ hw ▸ hr)

/-- A buffer that neither line of host operations writes and that no output block lies in ends as it began. -/
theorem kept (c : Dev nD) (b : Ref sig .tc) (h0 : b ∉ outs0) (h1 : b ∉ [main_v0])
    (hw : ∀ w, b = Pipeline.arrRef spec0 w → ((cfgs 0).win w).isOut = false) :
    StableHlo.after hostOps1 (Pipeline.afterRegion (dats m 0 c) (StableHlo.after hostOps0 (StableHlo.launchContents m c))) (Proc.devRef .tc b)
      = m ((c.tc : Thread nD τ).loc b) := by
  rw [line_kept hostOps1 _ hostOps1_writes _ b h1]
  have e0 : StableHlo.after hostOps0 (StableHlo.launchContents m c) (Proc.devRef .tc b) = m ((c.tc : Thread nD τ).loc b) :=
    line_kept hostOps0 _ hostOps0_writes _ b h0
  by_cases h : ∃ w, b = Pipeline.arrRef spec0 w
  · obtain ⟨w, rfl⟩ := h
    exact ((Pipeline.afterRegion_arr (dats m 0 c) _ (by decide) w).trans ((dats m 0 c).arrAt_in w (hw w rfl) _)).trans e0
  · exact (Pipeline.afterRegion_of_not_arr (dats m 0 c) _ fun w e => h ⟨w, e⟩).trans e0

end Cert.KernelIdeal.Body

end
-- ==== Proof.Spec.lean ====
/- The mathematics both programs compute, as plain functions of rows, columns and channels, with the lemmas that read one
   masked tap of the kernel. No program is mentioned here. -/
module

public import Idealize.ShloMosaic.Lib.Pointwise

@[expose] public section

set_option maxRecDepth 16384

noncomputable section

namespace Cert.Heads

open Idealize.ShloMosaic

/-- A feature map of one image: row, column, channel. Only rows and columns of the level are ever read. -/
abbrev Feat := ℕ → ℕ → Fin 256 → EReal

/-- The window position `(i, j)` of a 3x3 window centred at `(r, c)` lies in the `n` by `n` image. -/
abbrev Inside (n r c i j : ℕ) : Prop := 1 ≤ r + i ∧ r + i ≤ n ∧ 1 ≤ c + j ∧ c + j ≤ n

/-- One tap of the convolution: the pixel under position `(i, j)` of the window, zero outside the image, times that tap's weights. -/
def tap (n : ℕ) (g : Feat) (r c i j : ℕ) (w : Fin 256 → EReal) : EReal :=
  ∑ k, (if Inside n r c i j then g (r + i - 1) (c + j - 1) k else 0) * w k

/-- The 3x3 convolution with its bias, followed by the positive part. -/
def hid (n : ℕ) (g : Feat) (W : Fin 9 → Fin 256 → Fin 256 → EReal) (hb : Fin 256 → EReal) (r c : ℕ) (d : Fin 256) : EReal :=
  max (tap n g r c 0 0 (fun k => W 0 k d) + tap n g r c 0 1 (fun k => W 1 k d) + tap n g r c 0 2 (fun k => W 2 k d)
    + tap n g r c 1 0 (fun k => W 3 k d) + tap n g r c 1 1 (fun k => W 4 k d) + tap n g r c 1 2 (fun k => W 5 k d)
    + tap n g r c 2 0 (fun k => W 6 k d) + tap n g r c 2 1 (fun k => W 7 k d) + tap n g r c 2 2 (fun k => W 8 k d)
    + hb d) 0

/-- The seven raw numbers of a pixel: the hidden channels times the head's columns, plus the head's bias. -/
def raw (h : Fin 256 → EReal) (w : Fin 256 → Fin 7 → EReal) (b : Fin 7 → EReal) (j : Fin 7) : EReal :=
  ∑ d, h d * w d j + b j

/-- The seven results of a pixel: numbers 2 to 5 are exponentiated. -/
def res (y : Fin 7 → EReal) (j : Fin 7) : EReal := if 2 ≤ (j : ℕ) ∧ (j : ℕ) < 6 then Ideal.exp (y j) else y j

/-- The mean of the four pixels of a 2x2 block. -/
def pool (g : Feat) : Feat := fun r c k =>
  (g (2 * r) (2 * c) k + g (2 * r) (2 * c + 1) k + (g (2 * r + 1) (2 * c) k + g (2 * r + 1) (2 * c + 1) k)) * ((1 / 4 : ℝ) : EReal)

/-- All the results of one image: the 256 pixels of the finest level, then the 64 of the middle one, then the 16 of the coarsest. -/
def out (g : Feat) (W : Fin 9 → Fin 256 → Fin 256 → EReal) (hb : Fin 256 → EReal) (w : Fin 3 → Fin 256 → Fin 7 → EReal)
    (b : Fin 3 → Fin 7 → EReal) (q : ℕ) (j : Fin 7) : EReal :=
  if q < 256 then res (raw (hid 16 g W hb (q / 16) (q % 16)) (w 0) (b 0)) j
  else if q < 320 then res (raw (hid 8 (pool g) W hb ((q - 256) / 8) ((q - 256) % 8)) (w 1) (b 1)) j
  else res (raw (hid 4 (pool (pool g)) W hb ((q - 320) / 4) ((q - 320) % 4)) (w 2) (b 2)) j

/-- The projected features of image `B`: 384 inputs per pixel times the weights, plus the bias. -/
def feat (A : Fin 128 → Fin 256 → Fin 384 → EReal) (w : Fin 384 → Fin 256 → EReal) (b : Fin 256 → EReal) (B : ℕ) : Feat := fun r c k =>
  if h : B < 128 ∧ r < 16 ∧ c < 16 then (∑ m, A ⟨B, h.1⟩ ⟨r * 16 + c, by omega⟩ m * w m k) + b k else 0

/-- The kernel's head weights at a level: two class columns, four box columns times the level's scale, one centre column. -/
def headW (cls : Fin 256 → Fin 2 → EReal) (box : Fin 256 → Fin 4 → EReal) (ctr : Fin 256 → EReal) (s : Fin 3 → EReal)
    (l : Fin 3) (d : Fin 256) (j : Fin 7) : EReal :=
  if h : (j : ℕ) < 2 then cls d ⟨j, h⟩ else if h' : (j : ℕ) < 6 then box d ⟨j - 2, by omega⟩ * s l else ctr d

/-- The kernel's head biases at a level, scaled alike. -/
def headB (cls : Fin 2 → EReal) (box : Fin 4 → EReal) (ctr : EReal) (s : Fin 3 → EReal) (l : Fin 3) (j : Fin 7) : EReal :=
  if h : (j : ℕ) < 2 then cls ⟨j, h⟩ else if h' : (j : ℕ) < 6 then box ⟨j - 2, by omega⟩ * s l else ctr

/-- The pattern of the number one quarter. -/
theorem quarter : Ideal.ofBits .f32 0x3E800000#32 = ((1 / 4 : ℝ) : EReal) := by
  simp [Ideal.ofBits, Ideal.ieee, -EReal.coe_mul]; norm_num

/-- The pattern of the number zero. -/
theorem zeroBits : Ideal.ofBits .f32 0#32 = 0 := by
  simp [Ideal.ofBits, Ideal.ieee, -EReal.coe_mul]

/-- The pattern of the number four. -/
theorem four : Ideal.ofBits .f32 0x40800000#32 = ((4 : ℝ) : EReal) := by
  simp [Ideal.ofBits, Ideal.ieee, -EReal.coe_mul]; norm_num

/-- A masked product row is the tap it computes: the mask says whether the position is inside, and inside the row read is the pixel. -/
theorem sel_tap {n : ℕ} {g : Feat} {r c i j : ℕ} {m : BitVec 1} {P : Prop} [Decidable P] {L w : Fin 256 → EReal}
    (hm : m = if P then 1#1 else 0#1) (hP : P ↔ Inside n r c i j)
    (hL : Inside n r c i j → ∀ k, L k = g (r + i - 1) (c + j - 1) k) :
    (∑ k, Scalar.select m (L k * w k) 0) = tap n g r c i j w := by
  refine Finset.sum_congr rfl fun k _ => ?_
  by_cases h : Inside n r c i j
  · rw [if_pos h, hm, if_pos (hP.2 h), hL h k]
    rfl
  · rw [if_neg h, hm, if_neg (fun p => h (hP.1 p)), zero_mul]
    rfl

/-- The centre tap carries no mask. -/
theorem mid_tap {n : ℕ} {g : Feat} {r c : ℕ} {L w : Fin 256 → EReal} (hr : r < n) (hc : c < n) (hL : ∀ k, L k = g r c k) :
    (∑ k, L k * w k) = tap n g r c 1 1 w := by
  refine Finset.sum_congr rfl fun k _ => ?_
  rw [if_pos (by omega), hL k]
  rfl

/-- A word comparison with one from below, for a small number. -/
theorem one_le_word (r : ℕ) (h : r < 16) : IntOp.cmpi .sge (BitVec.ofNat 32 r) 1#32 = if 1 ≤ r then 1#1 else 0#1 := by
  have : ∀ r : Fin 16, IntOp.cmpi .sge (BitVec.ofNat 32 r) 1#32 = if 1 ≤ (r : ℕ) then 1#1 else 0#1 := by decide
  exact this ⟨r, h⟩

/-- A word comparison with a small number from above. -/
theorem le_word (r a : ℕ) (h : r < 16) (ha : a < 16) :
    IntOp.cmpi .sle (BitVec.ofNat 32 r) (BitVec.ofNat 32 a) = if r ≤ a then 1#1 else 0#1 := by
  have : ∀ r a : Fin 16, IntOp.cmpi .sle (BitVec.ofNat 32 r) (BitVec.ofNat 32 a) = if (r : ℕ) ≤ a then 1#1 else 0#1 := by decide
  exact this ⟨r, h⟩ ⟨a, ha⟩

/-- Two truth bits together. -/
theorem and_word (P Q : Prop) [Decidable P] [Decidable Q] :
    IntOp.andi (if P then 1#1 else 0#1) (if Q then 1#1 else 0#1) = if P ∧ Q then 1#1 else 0#1 := by
  by_cases hP : P <;> by_cases hQ : Q <;> simp [hP, hQ, IntOp.andi]

/-- The head's selection: numbers 2 to 5 take the exponential. -/
theorem sel_res (y : Fin 7 → EReal) (j : Fin 7) :
    Scalar.select (IntOp.andi (IntOp.cmpi .sge (BitVec.ofNat 32 j) 2#32) (IntOp.cmpi .slt (BitVec.ofNat 32 j) 6#32))
      (Ideal.exp (y j)) (y j) = res y j := by
  have : ∀ j : Fin 7, IntOp.andi (IntOp.cmpi .sge (BitVec.ofNat 32 j) 2#32) (IntOp.cmpi .slt (BitVec.ofNat 32 j) 6#32)
      = if 2 ≤ (j : ℕ) ∧ (j : ℕ) < 6 then 1#1 else 0#1 := by decide
  rw [this j, res]
  by_cases h : 2 ≤ (j : ℕ) ∧ (j : ℕ) < 6
  · rw [if_pos h, if_pos h]; rfl
  · rw [if_neg h, if_neg h]; rfl

end Cert.Heads

end
-- ==== Proof.Level0.lean ====
/- The kernel's finest level (16 by 16 pixels, 16 images a block): each generated payload of that level, read at one pixel row. -/
module

public import proofs.«01_k».proof.Proof.Spec
public import proofs.«01_k».proof.Proof.Gen.KernelIdeal.Skeleton

@[expose] public section

set_option maxRecDepth 100000
set_option maxHeartbeats 4000000

noncomputable section

namespace Cert.Heads

open Idealize.ShloMosaic Idealize.ShloMosaic.StableHlo Cert.KernelIdeal Cert.KernelIdeal.Gen

/-- A block of 16 images laid out as rows: row `p` is image `p / 256`, pixel `(p % 256 / 16, p % 16)`. -/
abbrev Rows0 (X : FVec Ideal S4096x256 .f32) (G : ℕ → Feat) : Prop :=
  ∀ (p : Fin 4096) (k : Fin 256), X (ix2 p k) = G (p / 256) (p % 256 / 16) (p % 16) k

/-- The row's own pixel row, as a word. -/
theorem row0 (p : Fin 4096) : k0_pay6 k0_pay2 16#32 k0_pay3 k0_pay4 k0_pay5 (ix2 p (0 : Fin 1)) = BitVec.ofNat 32 (p % 256 / 16) := by
  pointwise [k0_pay6, k0_pay2, k0_pay3, k0_pay4, k0_pay5]
  revert p
  decide +kernel

/-- The row's own pixel column, as a word. -/
theorem col0 (p : Fin 4096) : k0_pay7 k0_pay2 (ix2 p (0 : Fin 1)) = BitVec.ofNat 32 (p % 16) := by
  pointwise [k0_pay7, k0_pay2]
  revert p
  decide +kernel

/-- A row read through the layout. -/
theorem at0 {X : FVec Ideal S4096x256 .f32} {G : ℕ → Feat} (hX : Rows0 X G) {q : ℕ} (hq : q < 4096) (b r c : ℕ) (k : Fin 256)
    (hr : r < 16) (hc : c < 16) (h : q = b * 256 + r * 16 + c) : X (ix2 ⟨q, hq⟩ k) = G b r c k := by
  rw [hX]
  congr 1 <;> simp only [] <;> first | omega | (congr 1 <;> first | omega | (congr 1; omega))

/-- The exponentials and the block's final layout. -/
theorem pay52_at (y : FVec Ideal S4096x7 .f32) (b : Fin 16) (q : Fin 256) (j : Fin 7) :
    k0_pay52 (k0_pay17 y (iota .tc S1x7 32 [1] iota_S1x7_d1_w32) k0_pay15 k0_pay16) (ix3 b q j)
      = res (fun j => y (ix2 ⟨b * 256 + q, by omega⟩ j)) j := by
  rw [← sel_res]
  pointwise [k0_pay52, k0_pay17, k0_pay15, k0_pay16]

variable {X : FVec Ideal S4096x256 .f32} {G : ℕ → Feat} (hX : Rows0 X G)
  {p : Fin 4096} {b r c : ℕ} (hr : r < 16) (hc : c < 16) (hp : (p : ℕ) = b * 256 + r * 16 + c)
  {R C : IVec S4096x1 32} (hR : R (ix2 p (0 : Fin 1)) = BitVec.ofNat 32 r) (hC : C (ix2 p (0 : Fin 1)) = BitVec.ofNat 32 c)
  (acc : FVec Ideal S4096x256 .f32) (wa wb wc : Vec Ideal S1x256x256 .f32) (d : Fin 256)

include hX hr hc hp hR hC in
/-- Taps 1 to 3. -/
theorem pay11_at : k0_pay11 X R C acc (k0_pay9 X) (k0_pay10 X) wa wb wc (ix2 p d)
    = acc (ix2 p d) + tap 16 (G b) r c 0 1 (fun k => wa (ix3 (0 : Fin 1) k d))
      + tap 16 (G b) r c 0 2 (fun k => wb (ix3 (0 : Fin 1) k d))
      + tap 16 (G b) r c 1 0 (fun k => wc (ix3 (0 : Fin 1) k d)) := by
  pointwise [k0_pay11, k0_pay9, k0_pay10]
  refine congrArg₂ (· + ·) (congrArg₂ (· + ·) (congrArg (_ + ·) ?_) ?_) ?_
  · refine sel_tap (P := 1 ≤ r) (by rw [hR, one_le_word _ hr]) (by unfold Inside; omega) fun h k => ?_
    obtain ⟨h1, h2, h3, h4⟩ := h
    split <;> exact at0 hX _ _ _ _ _ (by omega) (by omega) (by omega)
  · refine sel_tap (P := 1 ≤ r ∧ c ≤ 14) (by rw [hR, hC, one_le_word _ hr, le_word _ 14 hc (by omega), and_word]) (by unfold Inside; omega) fun h k => ?_
    obtain ⟨h1, h2, h3, h4⟩ := h
    split <;> exact at0 hX _ _ _ _ _ (by omega) (by omega) (by omega)
  · refine sel_tap (P := 1 ≤ c) (by rw [hC, one_le_word _ hc]) (by unfold Inside; omega) fun h k => ?_
    obtain ⟨h1, h2, h3, h4⟩ := h
    split <;> exact at0 hX _ _ _ _ _ (by omega) (by omega) (by omega)

include hX hr hc hp hR hC in
/-- Taps 4 to 6. -/
theorem pay12_at : k0_pay12 X R C acc wa wb wc (ix2 p d)
    = acc (ix2 p d) + tap 16 (G b) r c 1 1 (fun k => wa (ix3 (0 : Fin 1) k d))
      + tap 16 (G b) r c 1 2 (fun k => wb (ix3 (0 : Fin 1) k d))
      + tap 16 (G b) r c 2 0 (fun k => wc (ix3 (0 : Fin 1) k d)) := by
  pointwise [k0_pay12]
  refine congrArg₂ (· + ·) (congrArg₂ (· + ·) (congrArg (_ + ·) ?_) ?_) ?_
  · exact mid_tap hr hc fun k => at0 hX p.isLt b r c k hr hc hp
  · refine sel_tap (P := c ≤ 14) (by rw [hC, le_word _ 14 hc (by omega)]) (by unfold Inside; omega) fun h k => ?_
    obtain ⟨h1, h2, h3, h4⟩ := h
    split <;> exact at0 hX _ _ _ _ _ (by omega) (by omega) (by omega)
  · refine sel_tap (P := r ≤ 14 ∧ 1 ≤ c) (by rw [hR, hC, le_word _ 14 hr (by omega), one_le_word _ hc, and_word]) (by unfold Inside; omega) fun h k => ?_
    obtain ⟨h1, h2, h3, h4⟩ := h
    split <;> exact at0 hX _ _ _ _ _ (by omega) (by omega) (by omega)

include hX hr hc hp hR hC in
/-- Tap 0. -/
theorem pay8_at (hr' : k0_pay6 k0_pay2 16#32 k0_pay3 k0_pay4 k0_pay5 = R) (hc' : k0_pay7 k0_pay2 = C) : k0_pay8 X k0_pay2 16#32 k0_pay3 k0_pay4 k0_pay5 wa (ix2 p d)
    = tap 16 (G b) r c 0 0 (fun k => wa (ix3 (0 : Fin 1) k d)) := by
  unfold k0_pay8
  rw [hr', hc']
  pointwise []
  · refine sel_tap (P := 1 ≤ r ∧ 1 ≤ c) (by rw [hR, hC, one_le_word _ hr, one_le_word _ hc, and_word]) (by unfold Inside; omega) fun h k => ?_
    obtain ⟨h1, h2, h3, h4⟩ := h
    split <;> exact at0 hX _ _ _ _ _ (by omega) (by omega) (by omega)

include hX hr hc hp hR hC in
/-- Taps 7 and 8, the bias, the positive part and the head's product. -/
theorem pay14_at (hb : Vec Ideal S1x256 .f32) (cw : Vec Ideal S1x256x7 .f32) (cb : Vec Ideal S1x1x7 .f32) (j : Fin 7) :
    k0_pay14 X R C acc (k0_pay13 X R) wa wb hb cw cb (ix2 p j)
    = raw (fun d => max (acc (ix2 p d) + tap 16 (G b) r c 2 1 (fun k => wa (ix3 (0 : Fin 1) k d))
        + tap 16 (G b) r c 2 2 (fun k => wb (ix3 (0 : Fin 1) k d)) + hb (ix2 (0 : Fin 1) d)) 0)
      (fun d j => cw (ix3 (0 : Fin 1) d j)) (fun j => cb (ix3 (0 : Fin 1) (0 : Fin 1) j)) j := by
  pointwise [k0_pay14, k0_pay13]
  refine congrArg (· + _) (Finset.sum_congr rfl fun d _ => congrArg (· * _) (congrArg (max · 0) (congrArg (· + _) ?_)))
  refine congrArg₂ (· + ·) (congrArg (_ + ·) ?_) ?_
  · refine sel_tap (P := r ≤ 14) (by rw [hR, le_word _ 14 hr (by omega)]) (by unfold Inside; omega) fun h k => ?_
    obtain ⟨h1, h2, h3, h4⟩ := h
    split <;> exact at0 hX _ _ _ _ _ (by omega) (by omega) (by omega)
  · refine sel_tap (P := r ≤ 14 ∧ c ≤ 14) (by rw [hR, hC, le_word _ 14 hr (by omega), le_word _ 14 hc (by omega), and_word]) (by unfold Inside; omega) fun h k => ?_
    obtain ⟨h1, h2, h3, h4⟩ := h
    split <;> exact at0 hX _ _ _ _ _ (by omega) (by omega) (by omega)

end Cert.Heads

end
-- ==== Proof.Level1.lean ====
/- The kernel's level of 8 by 8 pixels (16 images a block): each generated payload of that level, read at one pixel row. -/
module

public import proofs.«01_k».proof.Proof.Spec
public import proofs.«01_k».proof.Proof.Gen.KernelIdeal.Skeleton

@[expose] public section

set_option maxRecDepth 100000
set_option maxHeartbeats 4000000

noncomputable section

namespace Cert.Heads

open Idealize.ShloMosaic Idealize.ShloMosaic.StableHlo Cert.KernelIdeal Cert.KernelIdeal.Gen

/-- A block of 16 images laid out as rows: row `p` is image `p / 64`, pixel `(p % 64 / 8, p % 8)`. -/
abbrev Rows1 (X : FVec Ideal S1024x256 .f32) (G : ℕ → Feat) : Prop :=
  ∀ (p : Fin 1024) (k : Fin 256), X (ix2 p k) = G (p / 64) (p % 64 / 8) (p % 8) k

/-- The kernel's words for the pixel row of each row. -/
abbrev rowWords1 : IVec S1024x1 32 := k0_pay20 (iota .tc S1024x1 32 [0] iota_S1024x1_d0_w32) 64#32

/-- The kernel's words for the pixel column of each row. -/
abbrev colWords1 : IVec S1024x1 32 := k0_pay22 (Scalar.select (Scalar.cmpi .eq 8#32 0#32) 1#32 8#32) (k0_pay21 (iota .tc S1024x1 32 [0] iota_S1024x1_d0_w32) 64#32) 0#32

/-- The row's own pixel row, as a word. -/
theorem row1 (p : Fin 1024) : rowWords1 (ix2 p (0 : Fin 1)) = BitVec.ofNat 32 (p % 64 / 8) := by
  pointwise [rowWords1, k0_pay20, k0_pay19]
  revert p
  decide +kernel

/-- The row's own pixel column, as a word. -/
theorem col1 (p : Fin 1024) : colWords1 (ix2 p (0 : Fin 1)) = BitVec.ofNat 32 (p % 8) := by
  pointwise [colWords1, k0_pay22, k0_pay21, k0_pay19]
  revert p
  decide +kernel

/-- A row read through the layout. -/
theorem at1 {X : FVec Ideal S1024x256 .f32} {G : ℕ → Feat} (hX : Rows1 X G) {q : ℕ} (hq : q < 1024) (b r c : ℕ) (k : Fin 256)
    (hr : r < 8) (hc : c < 8) (h : q = b * 64 + r * 8 + c) : X (ix2 ⟨q, hq⟩ k) = G b r c k := by
  rw [hX]
  congr 1 <;> simp only [] <;> first | omega | (congr 1 <;> first | omega | (congr 1; omega))

/-- The block's final layout. -/
theorem pay53_at (y : FVec Ideal S1024x7 .f32) (b' : Fin 16) (q : Fin 64) (j : Fin 7) :
    k0_pay53 y (ix3 b' q j) = y (ix2 ⟨b' * 64 + q, by omega⟩ j) := by
  pointwise [k0_pay53]

variable {X : FVec Ideal S1024x256 .f32} {G : ℕ → Feat} (hX : Rows1 X G)
  {p : Fin 1024} {b r c : ℕ} (hr : r < 8) (hc : c < 8) (hp : (p : ℕ) = b * 64 + r * 8 + c)
  {R C : IVec S1024x1 32} (hR : R (ix2 p (0 : Fin 1)) = BitVec.ofNat 32 r) (hC : C (ix2 p (0 : Fin 1)) = BitVec.ofNat 32 c)
  (acc : FVec Ideal S1024x256 .f32) (wa wb wc wd : Vec Ideal S1x256x256 .f32) (d : Fin 256)

include hX hr hc hp hR hC in
/-- Taps 0 and 1. -/
theorem pay23_at (v : BitVec 32) (e : IVec S1024x1 32) (hv : k0_pay22 v e 0#32 = C) : k0_pay23 X R v e 0#32 wa wb (ix2 p d)
    = tap 8 (G b) r c 0 0 (fun k => wa (ix3 (0 : Fin 1) k d))
      + tap 8 (G b) r c 0 1 (fun k => wb (ix3 (0 : Fin 1) k d)) := by
  have hr' : r < 16 := by omega
  have hc' : c < 16 := by omega
  unfold k0_pay23
  rw [hv]
  pointwise []
  refine congrArg₂ (· + ·) ?_ ?_
  · refine sel_tap (P := 1 ≤ r ∧ 1 ≤ c) (by rw [hR, hC, one_le_word _ hr', one_le_word _ hc', and_word]) (by unfold Inside; omega) fun h k => ?_
    obtain ⟨h1, h2, h3, h4⟩ := h
    split <;> exact at1 hX _ _ _ _ _ (by omega) (by omega) (by omega)
  · refine sel_tap (P := 1 ≤ r) (by rw [hR, one_le_word _ hr']) (by unfold Inside; omega) fun h k => ?_
    obtain ⟨h1, h2, h3, h4⟩ := h
    split <;> exact at1 hX _ _ _ _ _ (by omega) (by omega) (by omega)

include hX hr hc hp hR hC in
/-- Taps 2 to 4. -/
theorem pay26_at : k0_pay26 X R C acc (k0_pay24 X) (k0_pay25 X) wa wb wc (ix2 p d)
    = acc (ix2 p d) + tap 8 (G b) r c 0 2 (fun k => wa (ix3 (0 : Fin 1) k d))
      + tap 8 (G b) r c 1 0 (fun k => wb (ix3 (0 : Fin 1) k d))
      + tap 8 (G b) r c 1 1 (fun k => wc (ix3 (0 : Fin 1) k d)) := by
  have hr' : r < 16 := by omega
  have hc' : c < 16 := by omega
  pointwise [k0_pay26, k0_pay24, k0_pay25]
  refine congrArg₂ (· + ·) (congrArg₂ (· + ·) (congrArg (_ + ·) ?_) ?_) ?_
  · refine sel_tap (P := 1 ≤ r ∧ c ≤ 6) (by rw [hR, hC, one_le_word _ hr', le_word _ 6 hc' (by omega), and_word]) (by unfold Inside; omega) fun h k => ?_
    obtain ⟨h1, h2, h3, h4⟩ := h
    split <;> exact at1 hX _ _ _ _ _ (by omega) (by omega) (by omega)
  · refine sel_tap (P := 1 ≤ c) (by rw [hC, one_le_word _ hc']) (by unfold Inside; omega) fun h k => ?_
    obtain ⟨h1, h2, h3, h4⟩ := h
    split <;> exact at1 hX _ _ _ _ _ (by omega) (by omega) (by omega)
  · exact mid_tap hr hc fun k => at1 hX p.isLt b r c k hr hc hp

include hX hr hc hp hR hC in
/-- Taps 5 to 7. -/
theorem pay28_at : k0_pay28 X R C acc (k0_pay27 X C) wa wb wc (ix2 p d)
    = acc (ix2 p d) + tap 8 (G b) r c 1 2 (fun k => wa (ix3 (0 : Fin 1) k d))
      + tap 8 (G b) r c 2 0 (fun k => wb (ix3 (0 : Fin 1) k d))
      + tap 8 (G b) r c 2 1 (fun k => wc (ix3 (0 : Fin 1) k d)) := by
  have hr' : r < 16 := by omega
  have hc' : c < 16 := by omega
  pointwise [k0_pay28, k0_pay27]
  refine congrArg₂ (· + ·) (congrArg₂ (· + ·) (congrArg (_ + ·) ?_) ?_) ?_
  · refine sel_tap (P := c ≤ 6) (by rw [hC, le_word _ 6 hc' (by omega)]) (by unfold Inside; omega) fun h k => ?_
    obtain ⟨h1, h2, h3, h4⟩ := h
    split <;> exact at1 hX _ _ _ _ _ (by omega) (by omega) (by omega)
  · refine sel_tap (P := r ≤ 6 ∧ 1 ≤ c) (by rw [hR, hC, le_word _ 6 hr' (by omega), one_le_word _ hc', and_word]) (by unfold Inside; omega) fun h k => ?_
    obtain ⟨h1, h2, h3, h4⟩ := h
    split <;> exact at1 hX _ _ _ _ _ (by omega) (by omega) (by omega)
  · refine sel_tap (P := r ≤ 6) (by rw [hR, le_word _ 6 hr' (by omega)]) (by unfold Inside; omega) fun h k => ?_
    obtain ⟨h1, h2, h3, h4⟩ := h
    split <;> exact at1 hX _ _ _ _ _ (by omega) (by omega) (by omega)

include hX hr hc hp hR hC in
/-- Tap 8, the bias, the positive part, the head's product and the exponentials. -/
theorem pay31_at (hb : Vec Ideal S1x256 .f32) (cw : Vec Ideal S1x256x7 .f32) (cb : Vec Ideal S1x1x7 .f32) (j : Fin 7) :
    k0_pay31 acc (k0_pay29 X) (k0_pay30 R C) (Scalar.ofBits .f32 0x00000000#32) wa hb cw cb (ix2 p j)
    = res (raw (fun d => max (acc (ix2 p d) + tap 8 (G b) r c 2 2 (fun k => wa (ix3 (0 : Fin 1) k d)) + hb (ix2 (0 : Fin 1) d)) 0)
      (fun d j => cw (ix3 (0 : Fin 1) d j)) (fun j => cb (ix3 (0 : Fin 1) (0 : Fin 1) j))) j := by
  have hr' : r < 16 := by omega
  have hc' : c < 16 := by omega
  have key : ∀ d, (∑ k, Scalar.select (k0_pay30 R C (ix2 p (0 : Fin 1))) (k0_pay29 X (ix2 p k) * wa (ix3 (0 : Fin 1) k d)) 0)
      = tap 8 (G b) r c 2 2 (fun k => wa (ix3 (0 : Fin 1) k d)) := by
    intro d
    pointwise [k0_pay29, k0_pay30]
    · refine sel_tap (P := r ≤ 6 ∧ c ≤ 6) (by rw [hR, hC, le_word _ 6 hr' (by omega), le_word _ 6 hc' (by omega), and_word]) (by unfold Inside; omega) fun h k => ?_
      obtain ⟨h1, h2, h3, h4⟩ := h
      split <;> exact at1 hX _ _ _ _ _ (by omega) (by omega) (by omega)
  rw [← sel_res]
  unfold raw
  simp only [← key]
  pointwise [k0_pay31, k0_pay29, k0_pay30]

end Cert.Heads

end
-- ==== Proof.Level2.lean ====
/- The kernel's level of 4 by 4 pixels (16 images a block): each generated payload of that level, read at one pixel row. -/
module

public import proofs.«01_k».proof.Proof.Spec
public import proofs.«01_k».proof.Proof.Gen.KernelIdeal.Skeleton

@[expose] public section

set_option maxRecDepth 100000
set_option maxHeartbeats 4000000

noncomputable section

namespace Cert.Heads

open Idealize.ShloMosaic Idealize.ShloMosaic.StableHlo Cert.KernelIdeal Cert.KernelIdeal.Gen

/-- A block of 16 images laid out as rows: row `p` is image `p / 16`, pixel `(p % 16 / 4, p % 4)`. -/
abbrev Rows2 (X : FVec Ideal S256x256 .f32) (G : ℕ → Feat) : Prop :=
  ∀ (p : Fin 256) (k : Fin 256), X (ix2 p k) = G (p / 16) (p % 16 / 4) (p % 4) k

/-- The kernel's words for the pixel row of each row. -/
abbrev rowWords2 : IVec S256x1 32 := k0_pay41 k0_pay37 k0_pay38 k0_pay39

/-- The kernel's words for the pixel column of each row. -/
abbrev colWords2 : IVec S256x1 32 := k0_pay42 k0_pay37 k0_pay38 k0_pay39

/-- The row's own pixel row, as a word. -/
theorem row2 (p : Fin 256) : rowWords2 (ix2 p (0 : Fin 1)) = BitVec.ofNat 32 (p % 16 / 4) := by
  pointwise [rowWords2, k0_pay41, k0_pay40, k0_pay37, k0_pay38, k0_pay39]
  revert p
  decide +kernel

/-- The row's own pixel column, as a word. -/
theorem col2 (p : Fin 256) : colWords2 (ix2 p (0 : Fin 1)) = BitVec.ofNat 32 (p % 4) := by
  pointwise [colWords2, k0_pay42, k0_pay40, k0_pay37, k0_pay38, k0_pay39]
  revert p
  decide +kernel

/-- A row read through the layout. -/
theorem at2 {X : FVec Ideal S256x256 .f32} {G : ℕ → Feat} (hX : Rows2 X G) {q : ℕ} (hq : q < 256) (b r c : ℕ) (k : Fin 256)
    (hr : r < 4) (hc : c < 4) (h : q = b * 16 + r * 4 + c) : X (ix2 ⟨q, hq⟩ k) = G b r c k := by
  rw [hX]
  congr 1 <;> simp only [] <;> first | omega | (congr 1 <;> first | omega | (congr 1; omega))

/-- The positive part, the head's product, the exponentials and the block's layout. -/
theorem pay54_at (y : FVec Ideal S256x256 .f32) (cw : Vec Ideal S1x256x7 .f32) (cb : Vec Ideal S1x1x7 .f32) (b' : Fin 16) (q : Fin 16) (j : Fin 7) :
    k0_pay54 y (Scalar.ofBits .f32 0x00000000#32) cw cb (ix3 b' q j)
    = res (raw (fun d => max (y (ix2 ⟨b' * 16 + q, by omega⟩ d)) 0)
      (fun d j => cw (ix3 (0 : Fin 1) d j)) (fun j => cb (ix3 (0 : Fin 1) (0 : Fin 1) j))) j := by
  rw [← sel_res]
  unfold raw
  pointwise [k0_pay54]

variable {X : FVec Ideal S256x256 .f32} {G : ℕ → Feat} (hX : Rows2 X G)
  {p : Fin 256} {b r c : ℕ} (hr : r < 4) (hc : c < 4) (hp : (p : ℕ) = b * 16 + r * 4 + c)
  {R C : IVec S256x1 32} (hR : R (ix2 p (0 : Fin 1)) = BitVec.ofNat 32 r) (hC : C (ix2 p (0 : Fin 1)) = BitVec.ofNat 32 c)
  (acc : FVec Ideal S256x256 .f32) (wa wb wc wd : Vec Ideal S1x256x256 .f32) (d : Fin 256)

include hX hr hc hp hR hC in
/-- Taps 0 and 1. -/
theorem pay45_at : k0_pay45 X R C (k0_pay43 (F := Ideal)) (k0_pay44 X) wa wb (ix2 p d)
    = tap 4 (G b) r c 0 0 (fun k => wa (ix3 (0 : Fin 1) k d))
      + tap 4 (G b) r c 0 1 (fun k => wb (ix3 (0 : Fin 1) k d)) := by
  have hr' : r < 16 := by omega
  have hc' : c < 16 := by omega
  pointwise [k0_pay45, k0_pay43, k0_pay44]
  refine congrArg₂ (· + ·) ?_ ?_
  · refine sel_tap (P := 1 ≤ r ∧ 1 ≤ c) (by rw [hR, hC, one_le_word _ hr', one_le_word _ hc', and_word]) (by unfold Inside; omega) fun h k => ?_
    obtain ⟨h1, h2, h3, h4⟩ := h
    split <;> exact at2 hX _ _ _ _ _ (by omega) (by omega) (by omega)
  · refine sel_tap (P := 1 ≤ r) (by rw [hR, one_le_word _ hr']) (by unfold Inside; omega) fun h k => ?_
    obtain ⟨h1, h2, h3, h4⟩ := h
    split <;> exact at2 hX _ _ _ _ _ (by omega) (by omega) (by omega)

include hX hr hc hp hR hC in
/-- Taps 2 to 5. -/
theorem pay48_at : k0_pay48 X C acc (k0_pay46 X R C) (k0_pay47 wa) (constant S256x256 .f32 0x00000000#32) wb wc wd (ix2 p d)
    = acc (ix2 p d) + tap 4 (G b) r c 0 2 (fun k => wa (ix3 (0 : Fin 1) k d))
      + tap 4 (G b) r c 1 0 (fun k => wb (ix3 (0 : Fin 1) k d))
      + tap 4 (G b) r c 1 1 (fun k => wc (ix3 (0 : Fin 1) k d))
      + tap 4 (G b) r c 1 2 (fun k => wd (ix3 (0 : Fin 1) k d)) := by
  have hr' : r < 16 := by omega
  have hc' : c < 16 := by omega
  pointwise [k0_pay48, k0_pay46, k0_pay47]
  refine congrArg₂ (· + ·) (congrArg₂ (· + ·) (congrArg₂ (· + ·) (congrArg (_ + ·) ?_) ?_) ?_) ?_
  · refine sel_tap (P := 1 ≤ r ∧ c ≤ 2) (by rw [hR, hC, one_le_word _ hr', le_word _ 2 hc' (by omega), and_word]) (by unfold Inside; omega) fun h k => ?_
    obtain ⟨h1, h2, h3, h4⟩ := h
    split <;> exact at2 hX _ _ _ _ _ (by omega) (by omega) (by omega)
  · refine sel_tap (P := 1 ≤ c) (by rw [hC, one_le_word _ hc']) (by unfold Inside; omega) fun h k => ?_
    obtain ⟨h1, h2, h3, h4⟩ := h
    split <;> exact at2 hX _ _ _ _ _ (by omega) (by omega) (by omega)
  · exact mid_tap hr hc fun k => at2 hX p.isLt b r c k hr hc hp
  · refine sel_tap (P := c ≤ 2) (by rw [hC, le_word _ 2 hc' (by omega)]) (by unfold Inside; omega) fun h k => ?_
    obtain ⟨h1, h2, h3, h4⟩ := h
    split <;> exact at2 hX _ _ _ _ _ (by omega) (by omega) (by omega)

include hX hr hc hp hR hC in
/-- Taps 6 to 8 and the bias. -/
theorem pay51_at (hb : Vec Ideal S1x256 .f32) : k0_pay51 X R C acc (k0_pay49 X) (Scalar.ofBits .f32 0x00000000#32) (k0_pay50 R C) wa wb wc hb (ix2 p d)
    = acc (ix2 p d) + tap 4 (G b) r c 2 0 (fun k => wa (ix3 (0 : Fin 1) k d))
      + tap 4 (G b) r c 2 1 (fun k => wb (ix3 (0 : Fin 1) k d))
      + tap 4 (G b) r c 2 2 (fun k => wc (ix3 (0 : Fin 1) k d)) + hb (ix2 (0 : Fin 1) d) := by
  have hr' : r < 16 := by omega
  have hc' : c < 16 := by omega
  pointwise [k0_pay51, k0_pay49, k0_pay50]
  refine congrArg (· + _) (congrArg₂ (· + ·) (congrArg₂ (· + ·) (congrArg (_ + ·) ?_) ?_) ?_)
  · refine sel_tap (P := r ≤ 2 ∧ 1 ≤ c) (by rw [hR, hC, le_word _ 2 hr' (by omega), one_le_word _ hc', and_word]) (by unfold Inside; omega) fun h k => ?_
    obtain ⟨h1, h2, h3, h4⟩ := h
    split <;> exact at2 hX _ _ _ _ _ (by omega) (by omega) (by omega)
  · refine sel_tap (P := r ≤ 2) (by rw [hR, le_word _ 2 hr' (by omega)]) (by unfold Inside; omega) fun h k => ?_
    obtain ⟨h1, h2, h3, h4⟩ := h
    split <;> exact at2 hX _ _ _ _ _ (by omega) (by omega) (by omega)
  · refine sel_tap (P := r ≤ 2 ∧ c ≤ 2) (by rw [hR, hC, le_word _ 2 hr' (by omega), le_word _ 2 hc' (by omega), and_word]) (by unfold Inside; omega) fun h k => ?_
    obtain ⟨h1, h2, h3, h4⟩ := h
    split <;> exact at2 hX _ _ _ _ _ (by omega) (by omega) (by omega)

end Cert.Heads

end
-- ==== Proof.Pools.lean ====
/- The kernel's projection and its two poolings by a constant matrix, read at one pixel row. -/
module

public import proofs.«01_k».proof.Proof.Level0
public import proofs.«01_k».proof.Proof.Level1
public import proofs.«01_k».proof.Proof.Level2

@[expose] public section

set_option maxRecDepth 100000
set_option maxHeartbeats 4000000

noncomputable section

namespace Cert.Heads

open Idealize.ShloMosaic Idealize.ShloMosaic.StableHlo Cert.KernelIdeal Cert.KernelIdeal.Gen

/-- A row of weights that is `q` on the four pixels of one 2x2 block of a `w`-wide image and zero elsewhere takes the block's mean. -/
theorem pool_sum {M w : ℕ} (hw : 0 < w) (g : Feat) (r c : ℕ) (k : Fin 256) (hc : 2 * c + 1 < w) (hM : (2 * r + 2) * w ≤ M)
    (f L : Fin M → EReal)
    (hf : ∀ m : Fin M, f m = if (m : ℕ) / w / 2 = r ∧ (m : ℕ) % w / 2 = c then ((1 / 4 : ℝ) : EReal) else 0)
    (hL : ∀ m : Fin M, L m = g (m / w) (m % w) k) : (∑ m, f m * L m) = pool g r c k := by
  have b1 : (2 * r + 1) * w = 2 * r * w + w := by ring
  have b2 : (2 * r + 2) * w = 2 * r * w + w + w := by ring
  have dm : ∀ u v : ℕ, v < w → (u * w + v) / w = u ∧ (u * w + v) % w = v := by
    intro u v hv
    refine ⟨?_, ?_⟩
    · rw [Nat.mul_comm, Nat.mul_add_div hw, Nat.div_eq_of_lt hv, Nat.add_zero]
    · rw [Nat.mul_comm, Nat.mul_add_mod, Nat.mod_eq_of_lt hv]
  have e0 := dm (2 * r) (2 * c) (by omega)
  have e1 := dm (2 * r) (2 * c + 1) (by omega)
  have e2 := dm (2 * r + 1) (2 * c) (by omega)
  have e3 := dm (2 * r + 1) (2 * c + 1) (by omega)
  let m0 : Fin M := ⟨2 * r * w + 2 * c, by omega⟩
  let m1 : Fin M := ⟨2 * r * w + (2 * c + 1), by omega⟩
  let m2 : Fin M := ⟨(2 * r + 1) * w + 2 * c, by omega⟩
  let m3 : Fin M := ⟨(2 * r + 1) * w + (2 * c + 1), by omega⟩
  have hs : (∑ m, f m * L m) = ∑ m ∈ ({m0, m1, m2, m3} : Finset (Fin M)), f m * L m := by
    refine (Finset.sum_subset (Finset.subset_univ _) fun m _ hm => ?_).symm
    rw [hf, if_neg, zero_mul]
    rintro ⟨h1, h2⟩
    apply hm
    have hd : (m : ℕ) = m / w * w + m % w := by rw [Nat.mul_comm]; exact (Nat.div_add_mod _ _).symm
    have hA : (m : ℕ) / w = 2 * r ∨ (m : ℕ) / w = 2 * r + 1 := by omega
    have hB : (m : ℕ) % w = 2 * c ∨ (m : ℕ) % w = 2 * c + 1 := by omega
    simp only [Finset.mem_insert, Finset.mem_singleton, Fin.ext_iff, m0, m1, m2, m3]
    rcases hA with hA | hA <;> rcases hB with hB | hB <;> rw [hA, hB] at hd <;> omega
  have n0 : m0 ∉ ({m1, m2, m3} : Finset (Fin M)) := by
    simp only [Finset.mem_insert, Finset.mem_singleton, Fin.ext_iff, m0, m1, m2, m3]; omega
  have n1 : m1 ∉ ({m2, m3} : Finset (Fin M)) := by
    simp only [Finset.mem_insert, Finset.mem_singleton, Fin.ext_iff, m0, m1, m2, m3]; omega
  have n2 : m2 ∉ ({m3} : Finset (Fin M)) := by
    simp only [Finset.mem_insert, Finset.mem_singleton, Fin.ext_iff, m0, m1, m2, m3]; omega
  have v : ∀ m : Fin M, (m : ℕ) / w / 2 = r → (m : ℕ) % w / 2 = c → f m * L m = g (m / w) (m % w) k * ((1 / 4 : ℝ) : EReal) := by
    intro m h1 h2
    rw [hf, if_pos ⟨h1, h2⟩, hL, mul_comm]
  have q0 : (0 : EReal) ≤ ((1 / 4 : ℝ) : EReal) := by exact_mod_cast (by norm_num : (0 : ℝ) ≤ 1 / 4)
  have qt : ((1 / 4 : ℝ) : EReal) ≠ ⊤ := EReal.coe_ne_top _
  rw [hs, Finset.sum_insert n0, Finset.sum_insert n1, Finset.sum_insert n2, Finset.sum_singleton,
    v m0 (by simp only [m0]; omega) (by simp only [m0]; omega), v m1 (by simp only [m1]; omega) (by simp only [m1]; omega),
    v m2 (by simp only [m2]; omega) (by simp only [m2]; omega), v m3 (by simp only [m3]; omega) (by simp only [m3]; omega)]
  simp only [m0, m1, m2, m3, e0, e1, e2, e3]
  unfold pool
  rw [EReal.right_distrib_of_nonneg_of_ne_top q0 qt, EReal.right_distrib_of_nonneg_of_ne_top q0 qt, EReal.right_distrib_of_nonneg_of_ne_top q0 qt,
    add_assoc]

/-- The projection: a row of 384 numbers times the weights, plus the bias. -/
theorem pay1_at (x : Vec Ideal S16x256x384 .f32) (w : Vec Ideal S384x256 .f32) (b : Vec Ideal S1x256 .f32) (p : Fin 4096) (d : Fin 256) :
    k0_pay1 x w b (ix2 p d) = (∑ k, x (ix3 ⟨p / 256, by omega⟩ ⟨p % 256, by omega⟩ k) * w (ix2 k d)) + b (ix2 (0 : Fin 1) d) := by
  pointwise [k0_pay1]

/-- The first pooling matrix: row `a` weighs the block of pixels `(a / 8, a % 8)` of a 16 by 16 image. -/
abbrev PoolA (P : Vec Ideal S64x256 .f32) : Prop :=
  ∀ (a : Fin 64) (m : Fin 256), P (ix2 a m) = if (m : ℕ) / 16 / 2 = (a : ℕ) / 8 ∧ (m : ℕ) % 16 / 2 = (a : ℕ) % 8 then ((1 / 4 : ℝ) : EReal) else 0

/-- The second pooling matrix: row `a` weighs the block of pixels `(a / 4, a % 4)` of an 8 by 8 image. -/
abbrev PoolB (P : Vec Ideal S16x64 .f32) : Prop :=
  ∀ (a : Fin 16) (m : Fin 64), P (ix2 a m) = if (m : ℕ) / 8 / 2 = (a : ℕ) / 4 ∧ (m : ℕ) % 8 / 2 = (a : ℕ) % 4 then ((1 / 4 : ℝ) : EReal) else 0

/-- One image's pooling by the first matrix. -/
theorem poolA_at {X : FVec Ideal S4096x256 .f32} {G : ℕ → Feat} (hX : Rows0 X G) {P : Vec Ideal S64x256 .f32} (hP : PoolA P)
    (b p : ℕ) {a : ℕ} (ha : a < 64) (k : Fin 256) (h : a = p - 64 * b) (h1 : 64 * b ≤ p) (off : Fin 256 → Fin 4096)
    (ho : ∀ m, (off m : ℕ) = b * 256 + m) :
    (∑ m, P (ix2 ⟨a, ha⟩ m) * X (ix2 (off m) k)) = pool (G (p / 64)) (p % 64 / 8) (p % 8) k := by
  have e1 : p / 64 = b := by omega
  have e2 : p % 64 / 8 = a / 8 := by omega
  have e3 : p % 8 = a % 8 := by omega
  rw [e1, e2, e3]
  exact pool_sum (w := 16) (by omega) (G b) (a / 8) (a % 8) k (by omega) (by omega) _ _ (fun m => hP ⟨a, ha⟩ m)
    fun m => at0 hX (off m).isLt b (m / 16) (m % 16) k (by omega) (by omega) (by have := ho m; omega)

/-- One image's pooling by the second matrix. -/
theorem poolB_at {X : FVec Ideal S1024x256 .f32} {G : ℕ → Feat} (hX : Rows1 X G) {P : Vec Ideal S16x64 .f32} (hP : PoolB P)
    (b p : ℕ) {a : ℕ} (ha : a < 16) (k : Fin 256) (h : a = p - 16 * b) (h1 : 16 * b ≤ p) (off : Fin 64 → Fin 1024)
    (ho : ∀ m, (off m : ℕ) = b * 64 + m) :
    (∑ m, P (ix2 ⟨a, ha⟩ m) * X (ix2 (off m) k)) = pool (G (p / 16)) (p % 16 / 4) (p % 4) k := by
  have e1 : p / 16 = b := by omega
  have e2 : p % 16 / 4 = a / 4 := by omega
  have e3 : p % 4 = a % 4 := by omega
  rw [e1, e2, e3]
  exact pool_sum (w := 8) (by omega) (G b) (a / 4) (a % 4) k (by omega) (by omega) _ _ (fun m => hP ⟨a, ha⟩ m)
    fun m => at1 hX (off m).isLt b (m / 8) (m % 8) k (by omega) (by omega) (by have := ho m; omega)

/-- The first pooling of the block's 16 images, one image at a time. -/
theorem pay18_eq (X : FVec Ideal S4096x256 .f32) (P : Vec Ideal S64x256 .f32) : k0_pay18 X P
    = concatenate S1024x256 0 (List.ofFn fun n : Fin 16 => ⟨S64x256,
        matmul (φ₁ := .f32) (φ₂ := .f32) dot_S64x256_S256x256_S64x256_1_0_0_1_n_n none P
          (extractStridedSlice S256x256 ![256 * (n : ℕ), 0] X (by revert n; decide)) (constant S64x256 .f32 0x00000000#32)⟩)
        concatenates_S64x256_S64x256_S64x256_S64x256_S64x256_S64x256_S64x256_S64x256_S64x256_S64x256_S64x256_S64x256_S64x256_S64x256_S64x256_S64x256_S1024x256_d0 := rfl

/-- The first pooling of the block's 16 images. -/
theorem pay18_rows {X : FVec Ideal S4096x256 .f32} {G : ℕ → Feat} (hX : Rows0 X G) {P : Vec Ideal S64x256 .f32} (hP : PoolA P) :
    Rows1 (k0_pay18 X P) fun b => pool (G b) := by
  intro p k
  have hp := p.isLt
  rw [pay18_eq]
  refine Eq.trans (concatenate_ofFn_apply (N := 16) (s₁ := S64x256) (t := S1024x256) (0 : Fin 2) _ _ rfl 64 rfl (ix2 p k) (⟨p / 64, by omega⟩ : Fin 16) rfl
    (ix2 ⟨p % 64, by omega⟩ k) rfl ?_) ?_
  · intro b hb
    fin_cases b
    · exact absurd rfl hb
    · rfl
  · pointwise []
    exact poolA_at (a := p % 64) hX hP (p / 64) p _ k (by omega) (by omega) (fun m => ⟨256 * (p / 64) + m, by omega⟩) (fun m => by dsimp only; omega)

/-- The second pooling of the block's 16 images, one image at a time. -/
theorem pay36_eq (X : FVec Ideal S1024x256 .f32) (P : Vec Ideal S16x64 .f32) : k0_pay36 X P (k0_pay32 X P) (k0_pay33 X P) (k0_pay34 X P) (k0_pay35 X)
    = concatenate S256x256 0 (List.ofFn fun n : Fin 16 => ⟨S16x256,
        matmul (φ₁ := .f32) (φ₂ := .f32) dot_S16x64_S64x256_S16x256_1_0_0_1_n_n none P
          (extractStridedSlice S64x256 ![64 * (n : ℕ), 0] X (by revert n; decide)) (constant S16x256 .f32 0x00000000#32)⟩)
        concatenates_S16x256_S16x256_S16x256_S16x256_S16x256_S16x256_S16x256_S16x256_S16x256_S16x256_S16x256_S16x256_S16x256_S16x256_S16x256_S16x256_S256x256_d0 := rfl

/-- The second pooling of the block's 16 images. -/
theorem pay36_rows {X : FVec Ideal S1024x256 .f32} {G : ℕ → Feat} (hX : Rows1 X G) {P : Vec Ideal S16x64 .f32} (hP : PoolB P) :
    Rows2 (k0_pay36 X P (k0_pay32 X P) (k0_pay33 X P) (k0_pay34 X P) (k0_pay35 X)) fun b => pool (G b) := by
  intro p k
  have hp := p.isLt
  rw [pay36_eq]
  refine Eq.trans (concatenate_ofFn_apply (N := 16) (s₁ := S16x256) (t := S256x256) (0 : Fin 2) _ _ rfl 16 rfl (ix2 p k) (⟨p / 16, by omega⟩ : Fin 16) rfl
    (ix2 ⟨p % 16, by omega⟩ k) rfl ?_) ?_
  · intro b hb
    fin_cases b
    · exact absurd rfl hb
    · rfl
  · pointwise []
    exact poolB_at (a := p % 16) hX hP (p / 16) p _ k (by omega) (by omega) (fun m => ⟨64 * (p / 16) + m, by omega⟩) (fun m => by dsimp only; omega)

end Cert.Heads

end
-- ==== Proof.Levels.lean ====
/- Each level of the kernel from its feature rows to its seven results per pixel: the payloads of a level composed. -/
module

public import proofs.«01_k».proof.Proof.Pools

@[expose] public section

set_option maxRecDepth 100000
set_option maxHeartbeats 4000000

noncomputable section

namespace Cert.Heads

open Idealize.ShloMosaic Idealize.ShloMosaic.StableHlo Cert.KernelIdeal Cert.KernelIdeal.Gen

variable {G : ℕ → Feat} {W : Fin 9 → Fin 256 → Fin 256 → EReal} {t0 t1 t2 t3 t4 t5 t6 t7 t8 : Vec Ideal S1x256x256 .f32}
  (h0 : ∀ k d, t0 (ix3 (0 : Fin 1) k d) = W 0 k d)
  (h1 : ∀ k d, t1 (ix3 (0 : Fin 1) k d) = W 1 k d)
  (h2 : ∀ k d, t2 (ix3 (0 : Fin 1) k d) = W 2 k d)
  (h3 : ∀ k d, t3 (ix3 (0 : Fin 1) k d) = W 3 k d)
  (h4 : ∀ k d, t4 (ix3 (0 : Fin 1) k d) = W 4 k d)
  (h5 : ∀ k d, t5 (ix3 (0 : Fin 1) k d) = W 5 k d)
  (h6 : ∀ k d, t6 (ix3 (0 : Fin 1) k d) = W 6 k d)
  (h7 : ∀ k d, t7 (ix3 (0 : Fin 1) k d) = W 7 k d)
  (h8 : ∀ k d, t8 (ix3 (0 : Fin 1) k d) = W 8 k d)
  (hb : Vec Ideal S1x256 .f32) (cw : Vec Ideal S1x256x7 .f32) (cb : Vec Ideal S1x1x7 .f32)

include h0 h1 h2 h3 h4 h5 h6 h7 h8 in
/-- The finest level. -/
theorem level0_at {X : FVec Ideal S4096x256 .f32} (hX : Rows0 X G) (b : Fin 16) (q : Fin 256) (j : Fin 7) :
    k0_pay52 (k0_pay17 (k0_pay14 X (k0_pay6 k0_pay2 16#32 k0_pay3 k0_pay4 k0_pay5) (k0_pay7 k0_pay2) (k0_pay12 X (k0_pay6 k0_pay2 16#32 k0_pay3 k0_pay4 k0_pay5) (k0_pay7 k0_pay2) (k0_pay11 X (k0_pay6 k0_pay2 16#32 k0_pay3 k0_pay4 k0_pay5) (k0_pay7 k0_pay2)
      (k0_pay8 X k0_pay2 16#32 k0_pay3 k0_pay4 k0_pay5 t0) (k0_pay9 X) (k0_pay10 X) t1 t2 t3) t4 t5 t6)
      (k0_pay13 X (k0_pay6 k0_pay2 16#32 k0_pay3 k0_pay4 k0_pay5)) t7 t8 hb cw cb) (iota .tc S1x7 32 [1] iota_S1x7_d1_w32) k0_pay15 k0_pay16) (ix3 b q j)
    = res (raw (hid 16 (G b) W (fun d => hb (ix2 (0 : Fin 1) d)) (q / 16) (q % 16))
        (fun d j => cw (ix3 (0 : Fin 1) d j)) (fun j => cb (ix3 (0 : Fin 1) (0 : Fin 1) j))) j := by
  have hr : (q : ℕ) / 16 < 16 := by omega
  have hc : (q : ℕ) % 16 < 16 := by omega
  have hp : ((⟨b * 256 + q, by omega⟩ : Fin 4096) : ℕ) = b * 256 + q / 16 * 16 + q % 16 := by dsimp only; omega
  have hR := (row0 ⟨b * 256 + q, by omega⟩).trans (congrArg (BitVec.ofNat 32) (show (b * 256 + q : ℕ) % 256 / 16 = q / 16 by omega))
  have hC := (col0 ⟨b * 256 + q, by omega⟩).trans (congrArg (BitVec.ofNat 32) (show (b * 256 + q : ℕ) % 16 = q % 16 by omega))
  rw [pay52_at]
  refine congrArg (fun y => res y j) (funext fun j => ?_)
  rw [pay14_at hX hr hc hp hR hC]
  refine congrArg (fun h => raw h _ _ j) (funext fun d => ?_)
  rw [pay12_at hX hr hc hp hR hC, pay11_at hX hr hc hp hR hC, pay8_at hX hr hc hp hR hC _ _ rfl rfl]
  simp only [h0, h1, h2, h3, h4, h5, h6, h7, h8]
  rfl

include h0 h1 h2 h3 h4 h5 h6 h7 h8 in
/-- The middle level. -/
theorem level1_at {X : FVec Ideal S1024x256 .f32} (hX : Rows1 X G) (b : Fin 16) (q : Fin 64) (j : Fin 7) :
    k0_pay53 (k0_pay31 (k0_pay28 X rowWords1 colWords1 (k0_pay26 X rowWords1 colWords1 (k0_pay23 X rowWords1 (Scalar.select (Scalar.cmpi .eq 8#32 0#32) 1#32 8#32)
      (k0_pay21 (iota .tc S1024x1 32 [0] iota_S1024x1_d0_w32) 64#32) 0#32 t0 t1) (k0_pay24 X) (k0_pay25 X) t2 t3 t4) (k0_pay27 X colWords1) t5 t6 t7)
      (k0_pay29 X) (k0_pay30 rowWords1 colWords1) (Scalar.ofBits .f32 0x00000000#32) t8 hb cw cb) (ix3 b q j)
    = res (raw (hid 8 (G b) W (fun d => hb (ix2 (0 : Fin 1) d)) (q / 8) (q % 8))
        (fun d j => cw (ix3 (0 : Fin 1) d j)) (fun j => cb (ix3 (0 : Fin 1) (0 : Fin 1) j))) j := by
  have hr : (q : ℕ) / 8 < 8 := by omega
  have hc : (q : ℕ) % 8 < 8 := by omega
  have hp : ((⟨b * 64 + q, by omega⟩ : Fin 1024) : ℕ) = b * 64 + q / 8 * 8 + q % 8 := by dsimp only; omega
  have hR := (row1 ⟨b * 64 + q, by omega⟩).trans (congrArg (BitVec.ofNat 32) (show (b * 64 + q : ℕ) % 64 / 8 = q / 8 by omega))
  have hC := (col1 ⟨b * 64 + q, by omega⟩).trans (congrArg (BitVec.ofNat 32) (show (b * 64 + q : ℕ) % 8 = q % 8 by omega))
  rw [pay53_at, pay31_at hX hr hc hp hR hC]
  refine congrArg (fun h => res (raw h _ _) j) (funext fun d => ?_)
  rw [pay28_at hX hr hc hp hR hC, pay26_at hX hr hc hp hR hC, pay23_at hX hr hc hp hR hC _ _ _ _ _ rfl]
  simp only [h0, h1, h2, h3, h4, h5, h6, h7, h8]
  rfl

include h0 h1 h2 h3 h4 h5 h6 h7 h8 in
/-- The coarsest level. -/
theorem level2_at {X : FVec Ideal S256x256 .f32} (hX : Rows2 X G) (b : Fin 16) (q : Fin 16) (j : Fin 7) :
    k0_pay54 (k0_pay51 X rowWords2 colWords2 (k0_pay48 X colWords2 (k0_pay45 X rowWords2 colWords2 (k0_pay43 (F := Ideal)) (k0_pay44 X) t0 t1)
      (k0_pay46 X rowWords2 colWords2) (k0_pay47 t2) (constant S256x256 .f32 0x00000000#32) t3 t4 t5)
      (k0_pay49 X) (Scalar.ofBits .f32 0x00000000#32) (k0_pay50 rowWords2 colWords2) t6 t7 t8 hb) (Scalar.ofBits .f32 0x00000000#32) cw cb (ix3 b q j)
    = res (raw (hid 4 (G b) W (fun d => hb (ix2 (0 : Fin 1) d)) (q / 4) (q % 4))
        (fun d j => cw (ix3 (0 : Fin 1) d j)) (fun j => cb (ix3 (0 : Fin 1) (0 : Fin 1) j))) j := by
  have hr : (q : ℕ) / 4 < 4 := by omega
  have hc : (q : ℕ) % 4 < 4 := by omega
  have hp : ((⟨b * 16 + q, by omega⟩ : Fin 256) : ℕ) = b * 16 + q / 4 * 4 + q % 4 := by dsimp only; omega
  have hR := (row2 ⟨b * 16 + q, by omega⟩).trans (congrArg (BitVec.ofNat 32) (show (b * 16 + q : ℕ) % 16 / 4 = q / 4 by omega))
  have hC := (col2 ⟨b * 16 + q, by omega⟩).trans (congrArg (BitVec.ofNat 32) (show (b * 16 + q : ℕ) % 4 = q % 4 by omega))
  rw [pay54_at]
  refine congrArg (fun h => res (raw h _ _) j) (funext fun d => ?_)
  rw [pay51_at hX hr hc hp hR hC, pay48_at hX hr hc hp hR hC, pay45_at hX hr hc hp hR hC]
  simp only [h0, h1, h2, h3, h4, h5, h6, h7, h8]
  rfl

end Cert.Heads

end
-- ==== Proof.Block.lean ====
/- What the kernel's body leaves in its output block, at coordinates: the three levels of 16 images. -/
module

public import proofs.«01_k».proof.Proof.Levels
public import proofs.«01_k».proof.Proof.KernelIdealRun
public import Idealize.ShloMosaic.Lib.Pipeline.ValueKit

@[expose] public section

set_option maxRecDepth 100000
set_option maxHeartbeats 4000000

noncomputable section

namespace Cert.Heads

open Idealize.ShloMosaic Idealize.ShloMosaic.StableHlo Cert.KernelIdeal Cert.KernelIdeal.Gen Cert.KernelIdeal.Body

/-- The output block over blocks of the operands, the two constant operands being the pooling matrices and `G` the projected features
    of the block's images. -/
theorem out_at (x0 : Vec Ideal S16x256x384 .f32) (x1 : Vec Ideal S384x256 .f32) (x2 : Vec Ideal S1x256 .f32) (x3 : Vec Ideal S9x256x256 .f32)
    (x4 : Vec Ideal S1x256 .f32) (x5 : Vec Ideal S3x256x7 .f32) (x6 : Vec Ideal S3x1x7 .f32) (x7 : Vec Ideal S64x256 .f32) (x8 : Vec Ideal S16x64 .f32)
    (hA : PoolA x7) (hB : PoolB x8) (G : ℕ → Feat)
    (hG : ∀ (b : Fin 16) (q k : Fin 256), (∑ m, x0 (ix3 b q m) * x1 (ix2 m k)) + x2 (ix2 (0 : Fin 1) k) = G b (q / 16) (q % 16) k)
    (y : S16x336x7.Idx) :
    out0_9 x0 x1 x2 x3 x4 x5 x6 x7 x8 y
      = out (G (y 0 : ℕ)) (fun t k d => x3 (ix3 t k d)) (fun d => x4 (ix2 (0 : Fin 1) d)) (fun l d j => x5 (ix3 l d j))
          (fun l j => x6 (ix3 l (0 : Fin 1) j)) (y 1 : ℕ) (y 2) := by
  have r0 : Rows0 (k0_pay1 (View.ld x0 r0_0) (View.ld x1 r0_1) (View.ld x2 r0_2)) G := by
    intro p k
    have hp := p.isLt
    rw [pay1_at]
    have e := hG ⟨p / 256, by omega⟩ ⟨p % 256, by omega⟩ k
    have e2 : (p : ℕ) % 256 % 16 = p % 16 := by omega
    dsimp only at e
    rw [e2] at e
    rw [← e]
    pointwise []
  have pA : PoolA (View.ld x7 r0_14) := by
    intro a m
    rw [← hA]
    pointwise []
  have pB : PoolB (View.ld x8 r0_17) := by
    intro a m
    rw [← hB]
    pointwise []
  have r1 := pay18_rows r0 pA
  have r2 := pay36_rows r1 pB
  have eta : ∀ {a b c : ℕ} (x : (⟨3, ![a, b, c]⟩ : Shape).Idx), x = ix3 (x 0) (x 1) (x 2) := by
    intro a b c x
    funext i
    fin_cases i <;> rfl
  canon_tiles x h using cover0_9 _ _ _ y
  · rw [eta x]
    refine (level2_at (W := fun t k d => x3 (ix3 t k d))
      ?_ ?_ ?_ ?_ ?_ ?_ ?_ ?_ ?_ _ _ _ r2 _ _ _).trans ?_
    iterate 9 (intro k d; pointwise [])
    unfold out
    rw [if_neg (by omega), if_neg (by omega)]
    rw [h0, show (y 1 : ℕ) - 320 = x 1 by omega, show y 2 = x 2 from Fin.ext h2]
    pointwise []
  · rw [eta x]
    refine (level1_at (W := fun t k d => x3 (ix3 t k d))
      ?_ ?_ ?_ ?_ ?_ ?_ ?_ ?_ ?_ _ _ _ r1 _ _ _).trans ?_
    iterate 9 (intro k d; pointwise [])
    unfold out
    rw [if_neg (by omega), if_pos (by omega)]
    rw [h0, show (y 1 : ℕ) - 256 = x 1 by omega, show y 2 = x 2 from Fin.ext h2]
    pointwise []
  · rw [eta x]
    refine (level0_at (W := fun t k d => x3 (ix3 t k d))
      ?_ ?_ ?_ ?_ ?_ ?_ ?_ ?_ ?_ _ _ _ r0 _ _ _).trans ?_
    iterate 9 (intro k d; pointwise [])
    unfold out
    rw [if_pos (by omega)]
    rw [h0, h1, show y 2 = x 2 from Fin.ext h2]
    pointwise []

end Cert.Heads

end
-- ==== Proof.PoolMatrices.lean ====
/- The kernel's two constant matrices: a quarter on each pixel of the output pixel's 2x2 block, zero elsewhere. -/
module

public import proofs.«01_k».proof.Proof.Gen.KernelIdeal.Skeleton

@[expose] public section

set_option maxRecDepth 100000

noncomputable section

namespace Cert.Heads

open Idealize.ShloMosaic Idealize.ShloMosaic.StableHlo Cert.KernelIdeal Cert.KernelIdeal.Gen

/-- The words of the first matrix. -/
theorem lit0_words : ∀ i : Fin 16384, lit0 i
    = if (i : ℕ) % 256 / 16 / 2 = (i : ℕ) / 256 / 8 ∧ (i : ℕ) % 16 / 2 = (i : ℕ) / 256 % 8 then 0x3E800000#32 else 0#32 := by
  decide +kernel

/-- The words of the second matrix. -/
theorem lit1_words : ∀ i : Fin 1024, lit1 i
    = if (i : ℕ) % 64 / 8 / 2 = (i : ℕ) / 64 / 4 ∧ (i : ℕ) % 8 / 2 = (i : ℕ) / 64 % 4 then 0x3E800000#32 else 0#32 := by
  decide +kernel

end Cert.Heads

end
-- ==== Proof.Operands.lean ====
/- What the operations before the launch leave in the four host-made operands, entry by entry: the head's weights and biases at each
   level, and the two pooling matrices. -/
module

public import proofs.«01_k».proof.Proof.KernelIdealRun
public import proofs.«01_k».proof.Proof.Pools
public import proofs.«01_k».proof.Proof.PoolMatrices
public import Idealize.ShloMosaic.Lib.StableHlo.RunRead
public import Idealize.ShloMosaic.Lib.Claim

@[expose] public section

set_option maxRecDepth 100000
set_option maxHeartbeats 4000000

noncomputable section

namespace Cert.KernelIdeal.Value

open Idealize.ShloMosaic Idealize.ShloMosaic.StableHlo Idealize.ShloMosaic.TcCoe Cert.KernelIdeal Cert.KernelIdeal.Gen Cert.KernelIdeal.Setup
open Cert.KernelIdeal.Body Cert.Heads

/-- Equal pieces concatenate to equal arrays. -/
theorem cat3 {S s₁ s₂ s₃ : Shape} {n : Fin S.rank} {a a' : FVec Ideal s₁ .f32} {b b' : FVec Ideal s₂ .f32} {d d' : FVec Ideal s₃ .f32}
    (h : Shape.Concatenates [s₁, s₂, s₃] S n) (ha : a = a') (hb : b = b') (hd : d = d') :
    concatenate S n [⟨s₁, a⟩, ⟨s₂, b⟩, ⟨s₃, d⟩] h = concatenate S n [⟨s₁, a'⟩, ⟨s₂, b'⟩, ⟨s₃, d'⟩] h := by
  subst ha hb hd
  rfl

/-- The head's seven weight columns, the box columns times the scale `s`. -/
def cols (a5 : FVec Ideal S1x1x256x2 .f32) (a7 : FVec Ideal S1x1x256x4 .f32) (a9 : FVec Ideal S1x1x256x1 .f32) (s : FVec Ideal S1 .f32) :
    FVec Ideal S256x7 .f32 :=
  concatenate S256x7 1
    [⟨S256x2, (shapeCast _ a5 shapeCasts_S1x1x256x2_S256x2 : FVec Ideal S256x2 .f32)⟩,
     ⟨S256x4, (mulf (shapeCast _ a7 shapeCasts_S1x1x256x4_S256x4) (broadcastInDim S256x4 ![] bcast_S_S256x4 (shapeCast _ s shapeCasts_S1_S_)) :
        FVec Ideal S256x4 .f32)⟩,
     ⟨S256x1, (shapeCast _ a9 shapeCasts_S1x1x256x1_S256x1 : FVec Ideal S256x1 .f32)⟩] concatenates_S256x2_S256x4_S256x1_S256x7_d1

/-- The head's seven biases, the box ones times the scale `s`. -/
def biases (a6 : FVec Ideal S2 .f32) (a8 : FVec Ideal S4 .f32) (a10 : FVec Ideal S1 .f32) (s : FVec Ideal S1 .f32) : FVec Ideal S7 .f32 :=
  concatenate S7 0
    [⟨S2, a6⟩, ⟨S4, (mulf a8 (broadcastInDim S4 ![] bcast_S_S4 (shapeCast _ s shapeCasts_S1_S_)) : FVec Ideal S4 .f32)⟩, ⟨S1, a10⟩]
    concatenates_S2_S4_S1_S7_d0

/-- The weight columns at coordinates. -/
theorem cols_at (a5 : FVec Ideal S1x1x256x2 .f32) (a7 : FVec Ideal S1x1x256x4 .f32) (a9 : FVec Ideal S1x1x256x1 .f32) (s : FVec Ideal S1 .f32)
    (v : Fin 3 → EReal) (l : Fin 3) (hs : s (ix1 0) = v l) (d : Fin 256) (j : Fin 7) :
    cols a5 a7 a9 s (ix2 d j)
      = headW (fun d j => a5 (ix4 0 0 d j)) (fun d j => a7 (ix4 0 0 d j)) (fun d => a9 (ix4 0 0 d 0)) v l d j := by
  have hj := j.isLt
  unfold cols headW
  pointwise []
  by_cases h : (j : ℕ) < 2
  · rw [dif_pos h, dif_pos h]
  · rw [dif_neg h, dif_neg h]
    by_cases h' : (j : ℕ) < 6
    · rw [dif_pos h', dif_pos (by omega), hs]
    · rw [dif_neg h', dif_neg (by omega)]

/-- The biases at coordinates. -/
theorem biases_at (a6 : FVec Ideal S2 .f32) (a8 : FVec Ideal S4 .f32) (a10 : FVec Ideal S1 .f32) (s : FVec Ideal S1 .f32)
    (v : Fin 3 → EReal) (l : Fin 3) (hs : s (ix1 0) = v l) (j : Fin 7) :
    biases a6 a8 a10 s (ix1 j) = headB (fun j => a6 (ix1 j)) (fun j => a8 (ix1 j)) (a10 (ix1 0)) v l j := by
  have hj := j.isLt
  unfold biases headB
  pointwise []
  by_cases h : (j : ℕ) < 2
  · rw [dif_pos h, dif_pos h]
  · rw [dif_neg h, dif_neg h]
    by_cases h' : (j : ℕ) < 6
    · rw [dif_pos h', dif_pos (by omega), hs]
    · rw [dif_neg h', dif_neg (by omega)]
      exact congrArg a10 (congrArg ix1 (Fin.ext (by show (j : ℕ) - 2 - 4 = 0; omega)))

/-- Row-major position of an entry of a matrix. -/
theorem pos0 (a : Fin 64) (k : Fin 256) : ((S64x256.rowMajor (ix2 a k) : Fin _) : ℕ) = a * 256 + k :=
  rowMajor_val2 _ _ rfl

/-- Row-major position of an entry of a matrix. -/
theorem pos1 (a : Fin 16) (k : Fin 64) : ((S16x64.rowMajor (ix2 a k) : Fin _) : ℕ) = a * 64 + k :=
  rowMajor_val2 _ _ rfl

/-- The first constant matrix is the first pooling matrix. -/
theorem matA : PoolA (fun i => FloatOps.ofBits (F := Ideal) .f32 (lit0 (S64x256.rowMajor i))) := by
  intro a k
  have e : ∀ i : Fin 16384, (i : ℕ) = a * 256 + k → Ideal.ofBits .f32 (lit0 i)
      = if (k : ℕ) / 16 / 2 = (a : ℕ) / 8 ∧ (k : ℕ) % 16 / 2 = (a : ℕ) % 8 then ((1 / 4 : ℝ) : EReal) else 0 := by
    intro i hi
    have ha := a.isLt
    have hk := k.isLt
    rw [lit0_words, show (i : ℕ) % 256 = k by omega, show (i : ℕ) / 256 = a by omega, show (i : ℕ) % 16 = k % 16 by omega]
    split
    · exact quarter
    · exact zeroBits
  exact e _ (pos0 a k)

/-- The second constant matrix is the second pooling matrix. -/
theorem matB : PoolB (fun i => FloatOps.ofBits (F := Ideal) .f32 (lit1 (S16x64.rowMajor i))) := by
  intro a k
  have e : ∀ i : Fin 1024, (i : ℕ) = a * 64 + k → Ideal.ofBits .f32 (lit1 i)
      = if (k : ℕ) / 8 / 2 = (a : ℕ) / 4 ∧ (k : ℕ) % 8 / 2 = (a : ℕ) % 4 then ((1 / 4 : ℝ) : EReal) else 0 := by
    intro i hi
    have ha := a.isLt
    have hk := k.isLt
    rw [lit1_words, show (i : ℕ) % 64 = k by omega, show (i : ℕ) / 64 = a by omega, show (i : ℕ) % 8 = k % 8 by omega]
    split
    · exact quarter
    · exact zeroBits
  exact e _ (pos1 a k)

variable (m : (ℓ : Loc nD τ sig) → Buf (Elt Ideal) ℓ) (c : Dev nD)

/-- The contents after the first `n` operations before the launch. -/
abbrev U (n : ℕ) (r : Ref sig .tc) : Buf (Elt Ideal) ((c : Thread nD τ).loc r) := upto (hostOps0 (F := Ideal)) (fun b => m (c, b)) n (Proc.devRef .tc r)

/-- The weight columns of level 0. -/
theorem weights0 : U m c 23 main_call0_v10 = cols (m (c.tc.loc main_arg5)) (m (c.tc.loc main_arg7)) (m (c.tc.loc main_arg9))
    (extractStridedSlice S1 ![0] (m (c.tc.loc main_arg11)) slices_S3_S1_0) := by
  unfold U
  after_reads_simp
  change concatenate S256x7 1 [⟨S256x2, U m c 12 main_call0_v3⟩, ⟨S256x4, U m c 12 main_call0_v9⟩, ⟨S256x1, U m c 12 main_call0_v5⟩]
    concatenates_S256x2_S256x4_S256x1_S256x7_d1 = _
  refine cat3 _ ?_ ?_ ?_ <;> (unfold U; after_reads_simp; try rfl)

/-- The weight columns of level 1. -/
theorem weights1 : U m c 24 main_call0_v15 = cols (m (c.tc.loc main_arg5)) (m (c.tc.loc main_arg7)) (m (c.tc.loc main_arg9))
    (extractStridedSlice S1 ![1] (m (c.tc.loc main_arg11)) slices_S3_S1_1) := by
  unfold U
  after_reads_simp
  change concatenate S256x7 1 [⟨S256x2, U m c 17 main_call0_v3⟩, ⟨S256x4, U m c 17 main_call0_v14⟩, ⟨S256x1, U m c 17 main_call0_v5⟩]
    concatenates_S256x2_S256x4_S256x1_S256x7_d1 = _
  refine cat3 _ ?_ ?_ ?_ <;> (unfold U; after_reads_simp; try rfl)

/-- The weight columns of level 2. -/
theorem weights2 : U m c 25 main_call0_v20 = cols (m (c.tc.loc main_arg5)) (m (c.tc.loc main_arg7)) (m (c.tc.loc main_arg9))
    (extractStridedSlice S1 ![2] (m (c.tc.loc main_arg11)) slices_S3_S1_2) := by
  unfold U
  after_reads_simp
  change concatenate S256x7 1 [⟨S256x2, U m c 22 main_call0_v3⟩, ⟨S256x4, U m c 22 main_call0_v19⟩, ⟨S256x1, U m c 22 main_call0_v5⟩]
    concatenates_S256x2_S256x4_S256x1_S256x7_d1 = _
  refine cat3 _ ?_ ?_ ?_ <;> (unfold U; after_reads_simp; try rfl)

/-- The biases of level 0. -/
theorem offsets0 : U m c 32 main_call0_v29 = biases (m (c.tc.loc main_arg6)) (m (c.tc.loc main_arg8)) (m (c.tc.loc main_arg10))
    (extractStridedSlice S1 ![0] (m (c.tc.loc main_arg11)) slices_S3_S1_0) := by
  unfold U
  after_reads_simp
  change concatenate S7 0 [⟨S2, U m c 31 main_arg6⟩, ⟨S4, U m c 31 main_call0_v28⟩, ⟨S1, U m c 31 main_arg10⟩] concatenates_S2_S4_S1_S7_d0 = _
  refine cat3 _ ?_ ?_ ?_ <;> (unfold U; after_reads_simp; try rfl)

/-- The biases of level 1. -/
theorem offsets1 : U m c 38 main_call0_v35 = biases (m (c.tc.loc main_arg6)) (m (c.tc.loc main_arg8)) (m (c.tc.loc main_arg10))
    (extractStridedSlice S1 ![1] (m (c.tc.loc main_arg11)) slices_S3_S1_1) := by
  unfold U
  after_reads_simp
  change concatenate S7 0 [⟨S2, U m c 37 main_arg6⟩, ⟨S4, U m c 37 main_call0_v34⟩, ⟨S1, U m c 37 main_arg10⟩] concatenates_S2_S4_S1_S7_d0 = _
  refine cat3 _ ?_ ?_ ?_ <;> (unfold U; after_reads_simp; try rfl)

/-- The biases of level 2. -/
theorem offsets2 : U m c 44 main_call0_v41 = biases (m (c.tc.loc main_arg6)) (m (c.tc.loc main_arg8)) (m (c.tc.loc main_arg10))
    (extractStridedSlice S1 ![2] (m (c.tc.loc main_arg11)) slices_S3_S1_2) := by
  unfold U
  after_reads_simp
  change concatenate S7 0 [⟨S2, U m c 43 main_arg6⟩, ⟨S4, U m c 43 main_call0_v40⟩, ⟨S1, U m c 43 main_arg10⟩] concatenates_S2_S4_S1_S7_d0 = _
  refine cat3 _ ?_ ?_ ?_ <;> (unfold U; after_reads_simp; try rfl)

/-- The weights' operand: the three levels stacked. -/
theorem stackW : V m c main_call0_v24 = concatenate S3x256x7 0
    [⟨S1x256x7, broadcastInDim S1x256x7 ![1, 2] bcast_S256x7_S1x256x7_1_2 (U m c 23 main_call0_v10)⟩,
     ⟨S1x256x7, broadcastInDim S1x256x7 ![1, 2] bcast_S256x7_S1x256x7_1_2 (U m c 24 main_call0_v15)⟩,
     ⟨S1x256x7, broadcastInDim S1x256x7 ![1, 2] bcast_S256x7_S1x256x7_1_2 (U m c 25 main_call0_v20)⟩]
    concatenates_S1x256x7_S1x256x7_S1x256x7_S3x256x7_d0 := by
  unfold V
  after_reads_simp
  change concatenate S3x256x7 0 [⟨S1x256x7, U m c 26 main_call0_v21⟩, ⟨S1x256x7, U m c 26 main_call0_v22⟩, ⟨S1x256x7, U m c 26 main_call0_v23⟩]
    concatenates_S1x256x7_S1x256x7_S1x256x7_S3x256x7_d0 = _
  refine cat3 _ ?_ ?_ ?_ <;> (unfold U; after_reads_simp; try rfl)

/-- The biases' operand: the three levels stacked. -/
theorem stackB : V m c main_call0_v46 = concatenate S3x1x7 0
    [⟨S1x1x7, broadcastInDim S1x1x7 ![1, 2] bcast_S1x7_S1x1x7_1_2 (shapeCast S1x7 (U m c 32 main_call0_v29) shapeCasts_S7_S1x7)⟩,
     ⟨S1x1x7, broadcastInDim S1x1x7 ![1, 2] bcast_S1x7_S1x1x7_1_2 (shapeCast S1x7 (U m c 38 main_call0_v35) shapeCasts_S7_S1x7)⟩,
     ⟨S1x1x7, broadcastInDim S1x1x7 ![1, 2] bcast_S1x7_S1x1x7_1_2 (shapeCast S1x7 (U m c 44 main_call0_v41) shapeCasts_S7_S1x7)⟩]
    concatenates_S1x1x7_S1x1x7_S1x1x7_S3x1x7_d0 := by
  unfold V
  after_reads_simp
  change concatenate S3x1x7 0 [⟨S1x1x7, U m c 48 main_call0_v43⟩, ⟨S1x1x7, U m c 48 main_call0_v44⟩, ⟨S1x1x7, U m c 48 main_call0_v45⟩]
    concatenates_S1x1x7_S1x1x7_S1x1x7_S3x1x7_d0 = _
  refine cat3 _ ?_ ?_ ?_ <;> (unfold U; after_reads_simp; try rfl)

end Cert.KernelIdeal.Value

end
-- ==== Proof.KernelValue.lean ====
/- The kernel's result array as a function of its arguments. -/
module

public import proofs.«01_k».proof.Proof.Block
public import proofs.«01_k».proof.Proof.Operands
public import Idealize.ShloMosaic.Lib.Claim

@[expose] public section

set_option maxRecDepth 100000
set_option maxHeartbeats 4000000

noncomputable section

namespace Cert.KernelIdeal.Value

open Idealize.ShloMosaic Idealize.ShloMosaic.StableHlo Idealize.ShloMosaic.TcCoe Cert.KernelIdeal Cert.KernelIdeal.Gen Cert.KernelIdeal.Setup
open Cert.KernelIdeal.Body Cert.Heads

variable (m : (ℓ : Loc nD τ sig) → Buf (Elt Ideal) ℓ) (c : Dev nD)

/-- The blocks every grid point reads: the images in sixteens, everything else whole. -/
theorem idx : ∀ t : Fin cfg0.N, win0_0.index t = ![t.val, 0, 0] ∧ win0_1.index t = ![0, 0] ∧ win0_2.index t = ![0, 0] ∧ win0_3.index t = ![0, 0, 0]
    ∧ win0_4.index t = ![0, 0] ∧ win0_5.index t = ![0, 0, 0] ∧ win0_6.index t = ![0, 0, 0] ∧ win0_7.index t = ![0, 0] ∧ win0_8.index t = ![0, 0]
    ∧ win0_9.index t = ![t.val, 0, 0] := (by decide +kernel : ∀ t : Fin grid0.N, _)

/-- The images. -/
abbrev aA (b : Fin 128) (q : Fin 256) (k : Fin 384) : EReal := (show FVec Ideal S128x256x384 .f32 from m (c.tc.loc main_arg0)) (ix3 b q k)
/-- The projection's weights. -/
abbrev aPw (k : Fin 384) (d : Fin 256) : EReal := (show FVec Ideal S384x256 .f32 from m (c.tc.loc main_arg1)) (ix2 k d)
/-- The projection's bias. -/
abbrev aPb (d : Fin 256) : EReal := (show FVec Ideal S256 .f32 from m (c.tc.loc main_arg2)) (ix1 d)
/-- The convolution's weights, tap by tap. -/
abbrev aW (t : Fin 9) (k d : Fin 256) : EReal :=
  (show FVec Ideal S3x3x256x256 .f32 from m (c.tc.loc main_arg3)) (ix4 ⟨t / 3, by omega⟩ ⟨t % 3, by omega⟩ k d)
/-- The convolution's bias. -/
abbrev aHb (d : Fin 256) : EReal := (show FVec Ideal S256 .f32 from m (c.tc.loc main_arg4)) (ix1 d)
/-- The class weights. -/
abbrev aClsW (d : Fin 256) (j : Fin 2) : EReal := (show FVec Ideal S1x1x256x2 .f32 from m (c.tc.loc main_arg5)) (ix4 0 0 d j)
/-- The class bias. -/
abbrev aClsB (j : Fin 2) : EReal := (show FVec Ideal S2 .f32 from m (c.tc.loc main_arg6)) (ix1 j)
/-- The box weights. -/
abbrev aBoxW (d : Fin 256) (j : Fin 4) : EReal := (show FVec Ideal S1x1x256x4 .f32 from m (c.tc.loc main_arg7)) (ix4 0 0 d j)
/-- The box bias. -/
abbrev aBoxB (j : Fin 4) : EReal := (show FVec Ideal S4 .f32 from m (c.tc.loc main_arg8)) (ix1 j)
/-- The centre weights. -/
abbrev aCtrW (d : Fin 256) : EReal := (show FVec Ideal S1x1x256x1 .f32 from m (c.tc.loc main_arg9)) (ix4 0 0 d 0)
/-- The centre bias. -/
abbrev aCtrB : EReal := (show FVec Ideal S1 .f32 from m (c.tc.loc main_arg10)) (ix1 0)
/-- The levels' scales. -/
abbrev aS (l : Fin 3) : EReal := (show FVec Ideal S3 .f32 from m (c.tc.loc main_arg11)) (ix1 l)

/-- The image block of a grid point: sixteen images, from number `16 t`. -/
theorem blk0 (t : Fin cfg0.N) (b : Fin 16) (q : Fin 256) (k : Fin 384) (h : 16 * t.val + b < 128) :
    (show FVec Ideal S16x256x384 .f32 from iblk m c 0 t) (ix3 b q k) = aA m c ⟨16 * t.val + b, h⟩ q k := by
  blk_simp [iblk]
  entry_read
  blk_ext [idx t]

/-- The block of the projection's weights. -/
theorem blk1 (t : Fin cfg0.N) (k : Fin 384) (d : Fin 256) :
    (show FVec Ideal S384x256 .f32 from iblk m c 1 t) (ix2 k d) = aPw m c k d := by
  blk_simp [iblk]
  entry_read
  blk_ext [idx t]

/-- The block of the projection's bias. -/
theorem blk2 (t : Fin cfg0.N) (d : Fin 256) :
    (show FVec Ideal S1x256 .f32 from iblk m c 2 t) (ix2 (0 : Fin 1) d) = aPb m c d := by
  blk_simp [iblk]
  entry_read
  pointwise
  blk_ext [idx t]

/-- The block of the convolution's weights: the taps in a row. -/
theorem blk3 (t : Fin cfg0.N) (i : Fin 9) (k d : Fin 256) :
    (show FVec Ideal S9x256x256 .f32 from iblk m c 3 t) (ix3 i k d) = aW m c i k d := by
  blk_simp [iblk]
  entry_read
  pointwise
  blk_ext [idx t]

/-- The block of the convolution's bias. -/
theorem blk4 (t : Fin cfg0.N) (d : Fin 256) :
    (show FVec Ideal S1x256 .f32 from iblk m c 4 t) (ix2 (0 : Fin 1) d) = aHb m c d := by
  blk_simp [iblk]
  entry_read
  pointwise
  blk_ext [idx t]

/-- The block of the heads' weights: the three levels' scaled columns. -/
theorem blk5 (t : Fin cfg0.N) (l : Fin 3) (d : Fin 256) (j : Fin 7) :
    (show FVec Ideal S3x256x7 .f32 from iblk m c 5 t) (ix3 l d j) = headW (aClsW m c) (aBoxW m c) (aCtrW m c) (aS m c) l d j := by
  blk_simp [iblk]
  have e : ((View.whole main_call0_v24).slice (win0_5.rect t)).emb (ix3 l d j) = ix3 l d j := by
    blk_ext [idx t]
  rw [e, stackW, weights0, weights1, weights2]
  fin_cases l
  · refine Eq.trans ?_ (cols_at _ _ _ (extractStridedSlice S1 ![0] (show FVec Ideal S3 .f32 from m (c.tc.loc main_arg11)) slices_S3_S1_0)
      (aS m c) 0 (by pointwise []) d j)
    pointwise []
  · refine Eq.trans ?_ (cols_at _ _ _ (extractStridedSlice S1 ![1] (show FVec Ideal S3 .f32 from m (c.tc.loc main_arg11)) slices_S3_S1_1)
      (aS m c) 1 (by pointwise []) d j)
    pointwise []
  · refine Eq.trans ?_ (cols_at _ _ _ (extractStridedSlice S1 ![2] (show FVec Ideal S3 .f32 from m (c.tc.loc main_arg11)) slices_S3_S1_2)
      (aS m c) 2 (by pointwise []) d j)
    pointwise []

/-- The block of the heads' biases: the three levels' scaled biases. -/
theorem blk6 (t : Fin cfg0.N) (l : Fin 3) (j : Fin 7) :
    (show FVec Ideal S3x1x7 .f32 from iblk m c 6 t) (ix3 l (0 : Fin 1) j) = headB (aClsB m c) (aBoxB m c) (aCtrB m c) (aS m c) l j := by
  blk_simp [iblk]
  have e : ((View.whole main_call0_v46).slice (win0_6.rect t)).emb (ix3 l (0 : Fin 1) j) = ix3 l (0 : Fin 1) j := by
    blk_ext [idx t]
  rw [e, stackB, offsets0, offsets1, offsets2]
  fin_cases l
  · refine Eq.trans ?_ (biases_at _ _ _ (extractStridedSlice S1 ![0] (show FVec Ideal S3 .f32 from m (c.tc.loc main_arg11)) slices_S3_S1_0)
      (aS m c) 0 (by pointwise []) j)
    pointwise []
  · refine Eq.trans ?_ (biases_at _ _ _ (extractStridedSlice S1 ![1] (show FVec Ideal S3 .f32 from m (c.tc.loc main_arg11)) slices_S3_S1_1)
      (aS m c) 1 (by pointwise []) j)
    pointwise []
  · refine Eq.trans ?_ (biases_at _ _ _ (extractStridedSlice S1 ![2] (show FVec Ideal S3 .f32 from m (c.tc.loc main_arg11)) slices_S3_S1_2)
      (aS m c) 2 (by pointwise []) j)
    pointwise []

/-- The block of the first pooling matrix. -/
theorem blk7 (t : Fin cfg0.N) : PoolA (show FVec Ideal S64x256 .f32 from iblk m c 7 t) := by
  intro a k
  blk_simp [iblk]
  have e : ((View.whole main_call0_cst).slice (win0_7.rect t)).emb (ix2 a k) = ix2 a k := by
    blk_ext [idx t]
  rw [e]
  entry_read
  exact matA a k

/-- The block of the second pooling matrix. -/
theorem blk8 (t : Fin cfg0.N) : PoolB (show FVec Ideal S16x64 .f32 from iblk m c 8 t) := by
  intro a k
  blk_simp [iblk]
  have e : ((View.whole main_call0_cst_0).slice (win0_8.rect t)).emb (ix2 a k) = ix2 a k := by
    blk_ext [idx t]
  rw [e]
  entry_read
  exact matB a k

/-- The launch's output array: image `b`'s results, one row per pixel. -/
theorem final : (dats m 0 c).arrAt 9 (cfgs 0).N = fun i : S128x336x7.Idx =>
    out (feat (aA m c) (aPw m c) (aPb m c) (i 0)) (aW m c) (aHb m c) (headW (aClsW m c) (aBoxW m c) (aCtrW m c) (aS m c))
      (headB (aClsB m c) (aBoxB m c) (aCtrB m c) (aS m c)) (i 1) (i 2) := by
  refine (dats m 0 c).arrAt_eq_of_covers 9 _ (by decide +kernel) fun t hf y => ?_
  blk_simp
  rw [after0_9]
  have hN : (cfgs 0).N = 8 := by decide +kernel
  have ht : (t : ℕ) < 8 := hN ▸ t.isLt
  rw [out_at _ _ _ _ _ _ _ _ _ (blk7 m c t) (blk8 m c t) (fun b => feat (aA m c) (aPw m c) (aPb m c) (16 * t + b))]
  · simp only [show ∀ i k d, iblk m c 3 t (ix3 i k d) = aW m c i k d from blk3 m c t, show ∀ d, iblk m c 4 t (ix2 (0 : Fin 1) d) = aHb m c d from blk4 m c t,
      show ∀ l d j, iblk m c 5 t (ix3 l d j) = headW (aClsW m c) (aBoxW m c) (aCtrW m c) (aS m c) l d j from blk5 m c t,
      show ∀ l j, iblk m c 6 t (ix3 l (0 : Fin 1) j) = headB (aClsB m c) (aBoxB m c) (aCtrB m c) (aS m c) l j from blk6 m c t]
    have e2 : (win0_9.blk t).view.emb y 2 = y 2 := by
      refine Fin.ext ?_
      blk_simp
      rw [(idx t).2.2.2.2.2.2.2.2.2]
      show 0 * 7 + (y 2 : ℕ) = y 2
      omega
    rw [(idx t).2.2.2.2.2.2.2.2.2, e2]
    show out (feat _ _ _ (16 * (t : ℕ) + (y 0 : ℕ))) _ _ _ _ (y 1 : ℕ) (y 2) = out (feat _ _ _ ((t : ℕ) * 16 + (y 0 : ℕ))) _ _ _ _ (0 * 336 + (y 1 : ℕ)) (y 2)
    rw [Nat.mul_comm (t : ℕ) 16, Nat.zero_mul, Nat.zero_add]
  · intro b q k
    have hb := b.isLt
    have hq := q.isLt
    have e : feat (aA m c) (aPw m c) (aPb m c) (16 * t + b) (q / 16) (q % 16) k
        = (∑ j, aA m c ⟨16 * t + b, by omega⟩ ⟨q / 16 * 16 + q % 16, by omega⟩ j * aPw m c j k) + aPb m c k :=
      dif_pos ⟨by omega, by omega, by omega⟩
    have eq : (⟨(q : ℕ) / 16 * 16 + q % 16, by omega⟩ : Fin 256) = q := Fin.ext (by simp only []; omega)
    rw [e, eq]
    refine congrArg₂ (· + ·) (Finset.sum_congr rfl fun j _ => congrArg₂ (· * ·) (blk0 m c t b q j (by omega)) (blk1 m c t j k)) (blk2 m c t k)

/-- What the kernel's run leaves in its result: the launch's output with its last two axes exchanged. -/
theorem result (B : Fin 128) (j : Fin 7) (q : Fin 336) :
    (show FVec Ideal S128x7x336 .f32 from after hostOps1 (Pipeline.afterRegion (dats m 0 c) (after hostOps0 (launchContents m c)))
        (Proc.devRef .tc main_v0)) (ix3 B j q)
      = out (feat (aA m c) (aPw m c) (aPb m c) B) (aW m c) (aHb m c) (headW (aClsW m c) (aBoxW m c) (aCtrW m c) (aS m c))
        (headB (aClsB m c) (aBoxB m c) (aCtrB m c) (aS m c)) q j := by
  have e : (Pipeline.afterRegion (dats m 0 c) (after hostOps0 (launchContents m c))) (Proc.devRef .tc main_call0_v47)
      = (dats m 0 c).arrAt 9 (cfgs 0).N := Pipeline.afterRegion_arr (dats m 0 c) _ (by decide) 9
  have e' : (show FVec Ideal S128x7x336 .f32 from after hostOps1 (Pipeline.afterRegion (dats m 0 c) (after hostOps0 (launchContents m c)))
      (Proc.devRef .tc main_v0)) = transpose S128x7x336 [0, 2, 1] ((dats m 0 c).arrAt 9 (cfgs 0).N : FVec Ideal S128x336x7 .f32)
        transposes_S128x336x7_S128x7x336_0_2_1 := by
    rw [← e]
    generalize Pipeline.afterRegion (dats m 0 c) (after hostOps0 (launchContents m c)) = V
    after_reads_simp
    rfl
  rw [e', final]
  pointwise []

end Cert.KernelIdeal.Value

end
-- ==== Proof.Answer.lean ====
/- The reference's answer in the terms of the specification, and why the kernel's answer is the same: scaling the box weights and the
   box bias is scaling the box numbers. No program is mentioned here. -/
module

public import proofs.«01_k».proof.Proof.Spec

@[expose] public section

set_option maxRecDepth 16384

noncomputable section

namespace Cert.Heads

open Idealize.ShloMosaic

/-- Pixels of an image with a border of zeros: a row of pixels at a window position, multiplied by a tap's weights, is the tap. -/
theorem pad_tap {n : ℕ} {g : Feat} (P : Fin (n + 2) → Fin (n + 2) → Fin 256 → EReal)
    (hP : ∀ x y k, P x y k = if 1 ≤ (x : ℕ) ∧ (x : ℕ) ≤ n ∧ 1 ≤ (y : ℕ) ∧ (y : ℕ) ≤ n then g (x - 1) (y - 1) k else 0)
    {r c i j : ℕ} (a b : Fin (n + 2)) (ha : (a : ℕ) = i + r) (hb : (b : ℕ) = j + c) (w : Fin 256 → EReal) :
    (∑ k, P a b k * w k) = tap n g r c i j w :=
  Finset.sum_congr rfl fun k _ => by rw [hP, ha, hb, Nat.add_comm i r, Nat.add_comm j c]

/-- Nine taps make the hidden channel. -/
theorem hid_eq {n : ℕ} {g : Feat} {W : Fin 9 → Fin 256 → Fin 256 → EReal} {hb : Fin 256 → EReal} {r c : ℕ} {d : Fin 256}
    {a0 a1 a2 a3 a4 a5 a6 a7 a8 : EReal}
    (h0 : a0 = tap n g r c 0 0 (fun k => W 0 k d)) (h1 : a1 = tap n g r c 0 1 (fun k => W 1 k d)) (h2 : a2 = tap n g r c 0 2 (fun k => W 2 k d))
    (h3 : a3 = tap n g r c 1 0 (fun k => W 3 k d)) (h4 : a4 = tap n g r c 1 1 (fun k => W 4 k d)) (h5 : a5 = tap n g r c 1 2 (fun k => W 5 k d))
    (h6 : a6 = tap n g r c 2 0 (fun k => W 6 k d)) (h7 : a7 = tap n g r c 2 1 (fun k => W 7 k d)) (h8 : a8 = tap n g r c 2 2 (fun k => W 8 k d)) :
    max (a0 + a1 + a2 + a3 + a4 + a5 + a6 + a7 + a8 + hb d) 0 = hid n g W hb r c d := by
  subst h0 h1 h2 h3 h4 h5 h6 h7 h8
  rfl

/-- A quarter of a sum of four, written as a quotient. -/
theorem div_four (x : EReal) : Ideal.div x (Ideal.ofBits .f32 0x40800000#32) = x * ((1 / 4 : ℝ) : EReal) := by
  rw [four, Ideal.div, if_neg (by exact_mod_cast (by norm_num : (4 : ℝ) ≠ 0)), ← EReal.coe_inv, one_div]

/-- The pooled map, read at one place. -/
theorem pool_apply (g : Feat) (r c : ℕ) (k : Fin 256) :
    pool g r c k = (g (2 * r) (2 * c) k + g (2 * r) (2 * c + 1) k + (g (2 * r + 1) (2 * c) k + g (2 * r + 1) (2 * c + 1) k))
      * ((1 / 4 : ℝ) : EReal) := rfl

/-- The answer at a pixel: two class numbers, four box numbers scaled and exponentiated, one centre number. -/
def ans (h : Fin 256 → EReal) (cls : Fin 256 → Fin 2 → EReal) (clsB : Fin 2 → EReal) (box : Fin 256 → Fin 4 → EReal) (boxB : Fin 4 → EReal)
    (ctr : Fin 256 → EReal) (ctrB : EReal) (s : EReal) (j : Fin 7) : EReal :=
  if h1 : (j : ℕ) < 2 then ∑ d, h d * cls d ⟨j, h1⟩ + clsB ⟨j, h1⟩
  else if h2 : (j : ℕ) < 6 then Ideal.exp (s * (∑ d, h d * box d ⟨j - 2, by omega⟩ + boxB ⟨j - 2, by omega⟩))
  else ∑ d, h d * ctr d + ctrB

/-- The answer at a pixel, its numbers read off two stacked choices. -/
theorem ans_intro {X h : Fin 256 → EReal} (hX : ∀ x, X x = h x) (cls : Fin 256 → Fin 2 → EReal) (clsB : Fin 2 → EReal)
    (box : Fin 256 → Fin 4 → EReal) (boxB : Fin 4 → EReal) (ctr : Fin 256 → EReal) (ctrB : EReal) (s : EReal) (j : Fin 7) :
    (if h1 : (j : ℕ) < 2 then ∑ x, X x * cls x ⟨j, h1⟩ + clsB ⟨j, h1⟩
      else if h2 : (j : ℕ) - 2 < 4 then Ideal.exp (s * (∑ x, X x * box x ⟨j - 2, h2⟩ + boxB ⟨j - 2, h2⟩))
      else ∑ x, X x * ctr x + ctrB) = ans h cls clsB box boxB ctr ctrB s j := by
  obtain rfl : X = h := funext hX
  unfold ans
  by_cases h1 : (j : ℕ) < 2
  · rw [dif_pos h1, dif_pos h1]
  · rw [dif_neg h1, dif_neg h1]
    by_cases h2 : (j : ℕ) < 6
    · rw [dif_pos (show (j : ℕ) - 2 < 4 by omega), dif_pos h2]
    · rw [dif_neg (show ¬ (j : ℕ) - 2 < 4 by omega), dif_neg h2]

/-- The answer of an image: all the pixels of the three levels. -/
def answer (g : Feat) (W : Fin 9 → Fin 256 → Fin 256 → EReal) (hb : Fin 256 → EReal) (cls : Fin 256 → Fin 2 → EReal) (clsB : Fin 2 → EReal)
    (box : Fin 256 → Fin 4 → EReal) (boxB : Fin 4 → EReal) (ctr : Fin 256 → EReal) (ctrB : EReal) (s : Fin 3 → EReal) (q : ℕ) (j : Fin 7) : EReal :=
  if q < 256 then ans (hid 16 g W hb (q / 16) (q % 16)) cls clsB box boxB ctr ctrB (s 0) j
  else if q < 320 then ans (hid 8 (pool g) W hb ((q - 256) / 8) ((q - 256) % 8)) cls clsB box boxB ctr ctrB (s 1) j
  else ans (hid 4 (pool (pool g)) W hb ((q - 320) / 4) ((q - 320) % 4)) cls clsB box boxB ctr ctrB (s 2) j

section Branches

variable {g : Feat} {W : Fin 9 → Fin 256 → Fin 256 → EReal} {hb : Fin 256 → EReal} {cls : Fin 256 → Fin 2 → EReal} {clsB : Fin 2 → EReal}
  {box : Fin 256 → Fin 4 → EReal} {boxB : Fin 4 → EReal} {ctr : Fin 256 → EReal} {ctrB : EReal} {s : Fin 3 → EReal} {q : ℕ} {j : Fin 7}

/-- The answer at a pixel of the finest level. -/
theorem answer_fine (h : q < 256) : answer g W hb cls clsB box boxB ctr ctrB s q j
    = ans (hid 16 g W hb (q / 16) (q % 16)) cls clsB box boxB ctr ctrB (s 0) j := if_pos h

/-- The answer at a pixel of the middle level. -/
theorem answer_middle (h : ¬ q < 256) (h' : q < 320) : answer g W hb cls clsB box boxB ctr ctrB s q j
    = ans (hid 8 (pool g) W hb ((q - 256) / 8) ((q - 256) % 8)) cls clsB box boxB ctr ctrB (s 1) j := (if_neg h).trans (if_pos h')

/-- The answer at a pixel of the coarsest level. -/
theorem answer_coarse (h : ¬ q < 256) (h' : ¬ q < 320) : answer g W hb cls clsB box boxB ctr ctrB s q j
    = ans (hid 4 (pool (pool g)) W hb ((q - 256 - 64) / 4) ((q - 256 - 64) % 4)) cls clsB box boxB ctr ctrB (s 2) j := by
  rw [Nat.sub_sub q 256 64]
  exact (if_neg h).trans (if_neg h')

end Branches

end Cert.Heads

end
-- ==== Proof.ReferenceValue.lean ====
/- The reference's result array as a function of its arguments, read entry by entry. -/
module

public import proofs.«01_k».proof.Proof.Answer
public import proofs.«01_k».proof.Proof.Gen.ReferenceIdeal.Run
public import Idealize.ShloMosaic.Lib.Claim

@[expose] public section

set_option maxRecDepth 100000
set_option maxHeartbeats 4000000

noncomputable section

namespace Cert.ReferenceIdeal.Value

open Idealize.ShloMosaic Idealize.ShloMosaic.StableHlo Idealize.ShloMosaic.TcCoe Cert.ReferenceIdeal Cert.ReferenceIdeal.Gen Cert.Heads

/-- Summing the two axes of the 2x2 blocks adds the four pixels of a block. -/
theorem block_sum {n0 n1 n3 n5 : ℕ} (h : (⟨6, ![n0, n1, 2, n3, 2, n5]⟩ : Shape).ReducesTo [2, 4] ⟨4, ![n0, n1, n3, n5]⟩)
    (v : (⟨6, ![n0, n1, 2, n3, 2, n5]⟩ : Shape).Idx → EReal) (z : EReal) (a : Fin n0) (b : Fin n1) (c : Fin n3) (d : Fin n5) :
    Ideal.hostReduceAdd h v z (ix4 a b c d)
      = z + (v (ix6 a b 0 c 0 d) + v (ix6 a b 0 c 1 d) + (v (ix6 a b 1 c 0 d) + v (ix6 a b 1 c 1 d))) := by
  have fiber : ∀ i, h.drop i = ix4 a b c d ↔ ∃ k : Fin 2 × Fin 2, ix6 a b k.1 c k.2 d = i := by
    intro i
    constructor
    · intro e
      refine ⟨(i 2, i 4), ?_⟩
      have e0 := congrFun e 0
      have e1 := congrFun e 1
      have e2 := congrFun e 2
      have e3 := congrFun e 3
      funext x
      fin_cases x
      · exact Fin.ext (congrArg Fin.val e0).symm
      · exact Fin.ext (congrArg Fin.val e1).symm
      · rfl
      · exact Fin.ext (congrArg Fin.val e2).symm
      · rfl
      · exact Fin.ext (congrArg Fin.val e3).symm
    · rintro ⟨k, rfl⟩
      funext x
      apply Fin.ext
      fin_cases x <;> rfl
  refine congrArg (z + ·) ((Finset.sum_filter_eq_sum_of_fiber _ (fun k : Fin 2 × Fin 2 => ix6 a b k.1 c k.2 d)
    (fun _ _ e => Prod.ext (congrFun e 2) (congrFun e 4)) fiber v).trans ?_)
  simp only [Fintype.sum_prod_type, Fin.sum_univ_two]

/-- The word zero, as a number, is zero. -/
theorem zeroInt : (FloatOps.sitofp .f32 0#32 : Ideal .f32) = 0 := by
  show ((((0#32 : BitVec 32).toInt : ℤ) : ℝ) : EReal) = 0
  simp

variable (V0 : Valuation τ sig (Elt Ideal))

/-- The images. -/
abbrev rA (b : Fin 128) (q : Fin 256) (k : Fin 384) : EReal := (show FVec Ideal S128x256x384 .f32 from V0 (Proc.devRef .tc main_arg0)) (ix3 b q k)
/-- The projection's weights. -/
abbrev rPw (k : Fin 384) (d : Fin 256) : EReal := (show FVec Ideal S384x256 .f32 from V0 (Proc.devRef .tc main_arg1)) (ix2 k d)
/-- The projection's bias. -/
abbrev rPb (d : Fin 256) : EReal := (show FVec Ideal S256 .f32 from V0 (Proc.devRef .tc main_arg2)) (ix1 d)
/-- The convolution's weights, tap by tap. -/
abbrev rW (t : Fin 9) (k d : Fin 256) : EReal :=
  (show FVec Ideal S3x3x256x256 .f32 from V0 (Proc.devRef .tc main_arg3)) (ix4 ⟨t / 3, by omega⟩ ⟨t % 3, by omega⟩ k d)
/-- The convolution's bias. -/
abbrev rHb (d : Fin 256) : EReal := (show FVec Ideal S256 .f32 from V0 (Proc.devRef .tc main_arg4)) (ix1 d)
/-- The class weights. -/
abbrev rClsW (d : Fin 256) (j : Fin 2) : EReal := (show FVec Ideal S1x1x256x2 .f32 from V0 (Proc.devRef .tc main_arg5)) (ix4 0 0 d j)
/-- The class bias. -/
abbrev rClsB (j : Fin 2) : EReal := (show FVec Ideal S2 .f32 from V0 (Proc.devRef .tc main_arg6)) (ix1 j)
/-- The box weights. -/
abbrev rBoxW (d : Fin 256) (j : Fin 4) : EReal := (show FVec Ideal S1x1x256x4 .f32 from V0 (Proc.devRef .tc main_arg7)) (ix4 0 0 d j)
/-- The box bias. -/
abbrev rBoxB (j : Fin 4) : EReal := (show FVec Ideal S4 .f32 from V0 (Proc.devRef .tc main_arg8)) (ix1 j)
/-- The centre weights. -/
abbrev rCtrW (d : Fin 256) : EReal := (show FVec Ideal S1x1x256x1 .f32 from V0 (Proc.devRef .tc main_arg9)) (ix4 0 0 d 0)
/-- The centre bias. -/
abbrev rCtrB : EReal := (show FVec Ideal S1 .f32 from V0 (Proc.devRef .tc main_arg10)) (ix1 0)
/-- The levels' scales. -/
abbrev rS (l : Fin 3) : EReal := (show FVec Ideal S3 .f32 from V0 (Proc.devRef .tc main_arg11)) (ix1 l)

/-- The features of an image. -/
abbrev rG (B : ℕ) : Feat := feat (rA V0) (rPw V0) (rPb V0) B

/-- The finest level's features. -/
theorem level0 (B : Fin 128) (r c : Fin 16) (k : Fin 256) :
    (show FVec Ideal S128x16x16x256 .f32 from res_main_v4 V0) (ix4 B r c k) = rG V0 B r c k := by
  have e : rG V0 B r c k = (∑ j, rA V0 B ⟨r * 16 + c, by omega⟩ j * rPw V0 j k) + rPb V0 k := dif_pos ⟨B.isLt, r.isLt, c.isLt⟩
  rw [e]
  unfold res_main_v4
  pointwise []

/-- The middle level's features. -/
theorem level1 (B : Fin 128) (r c : Fin 8) (k : Fin 256) :
    (show FVec Ideal S128x8x8x256 .f32 from res_main_v8 V0) (ix4 B r c k) = pool (rG V0 B) r c k := by
  unfold res_main_v8
  pointwise [block_sum]
  refine (div_four _).trans ?_
  unfold Heads.pool
  refine congrArg (· * _) (congrArg₂ (· + ·) (congrArg₂ (· + ·) ?_ ?_) (congrArg₂ (· + ·) ?_ ?_)) <;>
    (refine (level0 V0 _ _ _ _).trans ?_; simp only [Nat.mul_comm])

/-- The coarsest level: the mean over the middle level's blocks. -/
def coarse : FVec Ideal S128x4x4x256 .f32 :=
  Host.divf (Host.reduceAdd (shapeCast _ (res_main_v8 V0) shapeCasts_S128x8x8x256_S128x4x2x4x2x256)
    (constant S_ .f32 0x00000000#32) reducesTo_S128x4x2x4x2x256_S128x4x4x256_d2_4 h_S_)
    (broadcastInDim S128x4x4x256 ![] bcast_S_S128x4x4x256 (constant S_ .f32 0x40800000#32))

/-- The coarsest level's features. -/
theorem level2 (B : Fin 128) (r c : Fin 4) (k : Fin 256) : coarse V0 (ix4 B r c k) = pool (pool (rG V0 B)) r c k := by
  unfold coarse
  pointwise [block_sum]
  refine (div_four _).trans ?_
  refine Eq.trans ?_ (pool_apply (Heads.pool (rG V0 B)) r c k).symm
  refine congrArg (· * _) (congrArg₂ (· + ·) (congrArg₂ (· + ·) ?_ ?_) (congrArg₂ (· + ·) ?_ ?_)) <;>
    (refine (level1 V0 _ _ _ _).trans ?_; simp only [Nat.mul_comm])

/-- Level 0 with its border of zeros. -/
theorem padded0 (B : Fin 128) (x y : Fin 18) (k : Fin 256) :
    (show FVec Ideal S128x18x18x256 .f32 from res_main_v13 V0) (ix4 B x y k)
      = if 1 ≤ (x : ℕ) ∧ (x : ℕ) ≤ 16 ∧ 1 ≤ (y : ℕ) ∧ (y : ℕ) ≤ 16 then (rG V0 B) (x - 1) (y - 1) k else 0 := by
  unfold res_main_v13
  pointwise []
  by_cases hc : 1 ≤ (x : ℕ) ∧ (x : ℕ) ≤ 16 ∧ 1 ≤ (y : ℕ) ∧ (y : ℕ) ≤ 16
  · rw [if_pos hc]
    have hB := B.isLt
    have hk := k.isLt
    refine (dif_pos ?_).trans (level0 V0 B ⟨x - 1, by omega⟩ ⟨y - 1, by omega⟩ k)
    intro a
    fin_cases a
    · show 0 ≤ (B : ℕ) ∧ ((B : ℕ) - 0) % 1 = 0 ∧ ((B : ℕ) - 0) / 1 < 128
      omega
    · show 1 ≤ (x : ℕ) ∧ ((x : ℕ) - 1) % 1 = 0 ∧ ((x : ℕ) - 1) / 1 < 16
      omega
    · show 1 ≤ (y : ℕ) ∧ ((y : ℕ) - 1) % 1 = 0 ∧ ((y : ℕ) - 1) / 1 < 16
      omega
    · show 0 ≤ (k : ℕ) ∧ ((k : ℕ) - 0) % 1 = 0 ∧ ((k : ℕ) - 0) / 1 < 256
      omega
  · rw [if_neg hc]
    refine (dif_neg ?_).trans zeroInt
    intro h
    have h1 : 1 ≤ (x : ℕ) ∧ ((x : ℕ) - 1) % 1 = 0 ∧ ((x : ℕ) - 1) / 1 < 16 := h 1
    have h2 : 1 ≤ (y : ℕ) ∧ ((y : ℕ) - 1) % 1 = 0 ∧ ((y : ℕ) - 1) / 1 < 16 := h 2
    omega

/-- The hidden channels of level 0. -/
theorem hidden0 (B : Fin 128) (r c : Fin 16) (d : Fin 256) :
    (show FVec Ideal S128x16x16x256 .f32 from res_main_v63 V0) (ix4 B r c d) = hid 16 (rG V0 B) (rW V0) (rHb V0) r c d := by
  have hP := padded0 V0 B
  unfold res_main_v63
  pointwise []
  refine hid_eq (n := 16) (g := rG V0 B) (W := rW V0) (hb := rHb V0) (r := r) (c := c) (d := d) ?_ ?_ ?_ ?_ ?_ ?_ ?_ ?_ ?_
  · exact pad_tap (n := 16) (r := r) (c := c) (i := 0) (j := 0) _ hP ⟨r, by omega⟩ ⟨c, by omega⟩ (Nat.zero_add _).symm (Nat.zero_add _).symm fun k => rW V0 0 k d
  · exact pad_tap (n := 16) (r := r) (c := c) (i := 0) (j := 1) _ hP ⟨r, by omega⟩ ⟨1 + c, by omega⟩ (Nat.zero_add _).symm rfl fun k => rW V0 1 k d
  · exact pad_tap (n := 16) (r := r) (c := c) (i := 0) (j := 2) _ hP ⟨r, by omega⟩ ⟨2 + c, by omega⟩ (Nat.zero_add _).symm rfl fun k => rW V0 2 k d
  · exact pad_tap (n := 16) (r := r) (c := c) (i := 1) (j := 0) _ hP ⟨1 + r, by omega⟩ ⟨c, by omega⟩ rfl (Nat.zero_add _).symm fun k => rW V0 3 k d
  · exact pad_tap (n := 16) (r := r) (c := c) (i := 1) (j := 1) _ hP ⟨1 + r, by omega⟩ ⟨1 + c, by omega⟩ rfl rfl fun k => rW V0 4 k d
  · exact pad_tap (n := 16) (r := r) (c := c) (i := 1) (j := 2) _ hP ⟨1 + r, by omega⟩ ⟨2 + c, by omega⟩ rfl rfl fun k => rW V0 5 k d
  · exact pad_tap (n := 16) (r := r) (c := c) (i := 2) (j := 0) _ hP ⟨2 + r, by omega⟩ ⟨c, by omega⟩ rfl (Nat.zero_add _).symm fun k => rW V0 6 k d
  · exact pad_tap (n := 16) (r := r) (c := c) (i := 2) (j := 1) _ hP ⟨2 + r, by omega⟩ ⟨1 + c, by omega⟩ rfl rfl fun k => rW V0 7 k d
  · exact pad_tap (n := 16) (r := r) (c := c) (i := 2) (j := 2) _ hP ⟨2 + r, by omega⟩ ⟨2 + c, by omega⟩ rfl rfl fun k => rW V0 8 k d

/-- Level 1 with its border of zeros. -/
theorem padded1 (B : Fin 128) (x y : Fin 10) (k : Fin 256) :
    (show FVec Ideal S128x10x10x256 .f32 from res_main_v87 V0) (ix4 B x y k)
      = if 1 ≤ (x : ℕ) ∧ (x : ℕ) ≤ 8 ∧ 1 ≤ (y : ℕ) ∧ (y : ℕ) ≤ 8 then (pool (rG V0 B)) (x - 1) (y - 1) k else 0 := by
  unfold res_main_v87
  pointwise []
  by_cases hc : 1 ≤ (x : ℕ) ∧ (x : ℕ) ≤ 8 ∧ 1 ≤ (y : ℕ) ∧ (y : ℕ) ≤ 8
  · rw [if_pos hc]
    have hB := B.isLt
    have hk := k.isLt
    refine (dif_pos ?_).trans (level1 V0 B ⟨x - 1, by omega⟩ ⟨y - 1, by omega⟩ k)
    intro a
    fin_cases a
    · show 0 ≤ (B : ℕ) ∧ ((B : ℕ) - 0) % 1 = 0 ∧ ((B : ℕ) - 0) / 1 < 128
      omega
    · show 1 ≤ (x : ℕ) ∧ ((x : ℕ) - 1) % 1 = 0 ∧ ((x : ℕ) - 1) / 1 < 8
      omega
    · show 1 ≤ (y : ℕ) ∧ ((y : ℕ) - 1) % 1 = 0 ∧ ((y : ℕ) - 1) / 1 < 8
      omega
    · show 0 ≤ (k : ℕ) ∧ ((k : ℕ) - 0) % 1 = 0 ∧ ((k : ℕ) - 0) / 1 < 256
      omega
  · rw [if_neg hc]
    refine (dif_neg ?_).trans zeroInt
    intro h
    have h1 : 1 ≤ (x : ℕ) ∧ ((x : ℕ) - 1) % 1 = 0 ∧ ((x : ℕ) - 1) / 1 < 8 := h 1
    have h2 : 1 ≤ (y : ℕ) ∧ ((y : ℕ) - 1) % 1 = 0 ∧ ((y : ℕ) - 1) / 1 < 8 := h 2
    omega

/-- The hidden channels of level 1. -/
theorem hidden1 (B : Fin 128) (r c : Fin 8) (d : Fin 256) :
    (show FVec Ideal S128x8x8x256 .f32 from res_main_v137 V0) (ix4 B r c d) = hid 8 (pool (rG V0 B)) (rW V0) (rHb V0) r c d := by
  have hP := padded1 V0 B
  unfold res_main_v137
  pointwise []
  refine hid_eq (n := 8) (g := pool (rG V0 B)) (W := rW V0) (hb := rHb V0) (r := r) (c := c) (d := d) ?_ ?_ ?_ ?_ ?_ ?_ ?_ ?_ ?_
  · exact pad_tap (n := 8) (r := r) (c := c) (i := 0) (j := 0) _ hP ⟨r, by omega⟩ ⟨c, by omega⟩ (Nat.zero_add _).symm (Nat.zero_add _).symm fun k => rW V0 0 k d
  · exact pad_tap (n := 8) (r := r) (c := c) (i := 0) (j := 1) _ hP ⟨r, by omega⟩ ⟨1 + c, by omega⟩ (Nat.zero_add _).symm rfl fun k => rW V0 1 k d
  · exact pad_tap (n := 8) (r := r) (c := c) (i := 0) (j := 2) _ hP ⟨r, by omega⟩ ⟨2 + c, by omega⟩ (Nat.zero_add _).symm rfl fun k => rW V0 2 k d
  · exact pad_tap (n := 8) (r := r) (c := c) (i := 1) (j := 0) _ hP ⟨1 + r, by omega⟩ ⟨c, by omega⟩ rfl (Nat.zero_add _).symm fun k => rW V0 3 k d
  · exact pad_tap (n := 8) (r := r) (c := c) (i := 1) (j := 1) _ hP ⟨1 + r, by omega⟩ ⟨1 + c, by omega⟩ rfl rfl fun k => rW V0 4 k d
  · exact pad_tap (n := 8) (r := r) (c := c) (i := 1) (j := 2) _ hP ⟨1 + r, by omega⟩ ⟨2 + c, by omega⟩ rfl rfl fun k => rW V0 5 k d
  · exact pad_tap (n := 8) (r := r) (c := c) (i := 2) (j := 0) _ hP ⟨2 + r, by omega⟩ ⟨c, by omega⟩ rfl (Nat.zero_add _).symm fun k => rW V0 6 k d
  · exact pad_tap (n := 8) (r := r) (c := c) (i := 2) (j := 1) _ hP ⟨2 + r, by omega⟩ ⟨1 + c, by omega⟩ rfl rfl fun k => rW V0 7 k d
  · exact pad_tap (n := 8) (r := r) (c := c) (i := 2) (j := 2) _ hP ⟨2 + r, by omega⟩ ⟨2 + c, by omega⟩ rfl rfl fun k => rW V0 8 k d

/-- Level 2 with its border of zeros. -/
theorem padded2 (B : Fin 128) (x y : Fin 6) (k : Fin 256) :
    (show FVec Ideal S128x6x6x256 .f32 from res_main_v161 V0) (ix4 B x y k)
      = if 1 ≤ (x : ℕ) ∧ (x : ℕ) ≤ 4 ∧ 1 ≤ (y : ℕ) ∧ (y : ℕ) ≤ 4 then (pool (pool (rG V0 B))) (x - 1) (y - 1) k else 0 := by
  have e : (show FVec Ideal S128x6x6x256 .f32 from res_main_v161 V0) = pad S128x6x6x256 ![0, 1, 1, 0] ![0, 1, 1, 0] ![0, 0, 0, 0] (coarse V0)
      (sitofp .f32 (constantI S_ 32 0#32)) pads_S128x4x4x256_S128x6x6x256_000_110_110_000 h_S_ := rfl
  rw [e]
  pointwise []
  by_cases hc : 1 ≤ (x : ℕ) ∧ (x : ℕ) ≤ 4 ∧ 1 ≤ (y : ℕ) ∧ (y : ℕ) ≤ 4
  · rw [if_pos hc]
    exact (dif_pos (by omega)).trans (level2 V0 B ⟨x - 1, by omega⟩ ⟨y - 1, by omega⟩ k)
  · rw [if_neg hc]
    exact (dif_neg (by omega)).trans zeroInt

/-- The hidden channels of level 2. -/
theorem hidden2 (B : Fin 128) (r c : Fin 4) (d : Fin 256) :
    (show FVec Ideal S128x4x4x256 .f32 from res_main_v211 V0) (ix4 B r c d) = hid 4 (pool (pool (rG V0 B))) (rW V0) (rHb V0) r c d := by
  have hP := padded2 V0 B
  unfold res_main_v211
  pointwise []
  refine hid_eq (n := 4) (g := pool (pool (rG V0 B))) (W := rW V0) (hb := rHb V0) (r := r) (c := c) (d := d) ?_ ?_ ?_ ?_ ?_ ?_ ?_ ?_ ?_
  · exact pad_tap (n := 4) (r := r) (c := c) (i := 0) (j := 0) _ hP ⟨r, by omega⟩ ⟨c, by omega⟩ (Nat.zero_add _).symm (Nat.zero_add _).symm fun k => rW V0 0 k d
  · exact pad_tap (n := 4) (r := r) (c := c) (i := 0) (j := 1) _ hP ⟨r, by omega⟩ ⟨1 + c, by omega⟩ (Nat.zero_add _).symm rfl fun k => rW V0 1 k d
  · exact pad_tap (n := 4) (r := r) (c := c) (i := 0) (j := 2) _ hP ⟨r, by omega⟩ ⟨2 + c, by omega⟩ (Nat.zero_add _).symm rfl fun k => rW V0 2 k d
  · exact pad_tap (n := 4) (r := r) (c := c) (i := 1) (j := 0) _ hP ⟨1 + r, by omega⟩ ⟨c, by omega⟩ rfl (Nat.zero_add _).symm fun k => rW V0 3 k d
  · exact pad_tap (n := 4) (r := r) (c := c) (i := 1) (j := 1) _ hP ⟨1 + r, by omega⟩ ⟨1 + c, by omega⟩ rfl rfl fun k => rW V0 4 k d
  · exact pad_tap (n := 4) (r := r) (c := c) (i := 1) (j := 2) _ hP ⟨1 + r, by omega⟩ ⟨2 + c, by omega⟩ rfl rfl fun k => rW V0 5 k d
  · exact pad_tap (n := 4) (r := r) (c := c) (i := 2) (j := 0) _ hP ⟨2 + r, by omega⟩ ⟨c, by omega⟩ rfl (Nat.zero_add _).symm fun k => rW V0 6 k d
  · exact pad_tap (n := 4) (r := r) (c := c) (i := 2) (j := 1) _ hP ⟨2 + r, by omega⟩ ⟨1 + c, by omega⟩ rfl rfl fun k => rW V0 7 k d
  · exact pad_tap (n := 4) (r := r) (c := c) (i := 2) (j := 2) _ hP ⟨2 + r, by omega⟩ ⟨2 + c, by omega⟩ rfl rfl fun k => rW V0 8 k d

/-- The reference's result. -/
theorem result (B : Fin 128) (j : Fin 7) (q : Fin 336) :
    (show FVec Ideal S128x7x336 .f32 from res_out0 V0) (ix3 B j q)
      = answer (rG V0 B) (rW V0) (rHb V0) (rClsW V0) (rClsB V0) (rBoxW V0) (rBoxB V0) (rCtrW V0) (rCtrB V0) (rS V0) q j := by
  show (show FVec Ideal S128x7x336 .f32 from res_main_v235 V0) (ix3 B j q) = _
  have hq := q.isLt
  have hid0 := hidden0 V0 B
  have hid1 := hidden1 V0 B
  have hid2 := hidden2 V0 B
  unfold res_main_v235
  generalize rG V0 B = g at hid0 hid1 hid2 ⊢
  generalize (res_main_v63 V0 : FVec Ideal S128x16x16x256 .f32) = R0 at hid0 ⊢
  generalize (res_main_v137 V0 : FVec Ideal S128x8x8x256 .f32) = R1 at hid1 ⊢
  generalize (res_main_v211 V0 : FVec Ideal S128x4x4x256 .f32) = R2 at hid2 ⊢
  pointwise []
  by_cases h1 : (q : ℕ) < 256
  · refine (dif_pos h1).trans (Eq.trans ?_ (answer_fine h1).symm)
    have hX := fun x => hid0 ⟨(q : ℕ) / 16, by omega⟩ ⟨(q : ℕ) % 16, by omega⟩ x
    generalize hid 16 g (rW V0) (rHb V0) ((q : ℕ) / 16) ((q : ℕ) % 16) = H at hX ⊢
    exact ans_intro hX (rClsW V0) (rClsB V0) (rBoxW V0) (rBoxB V0) (rCtrW V0) (rCtrB V0) (rS V0 0) j
  · refine (dif_neg h1).trans ?_
    by_cases h2 : (q : ℕ) < 320
    · refine (dif_pos (show (q : ℕ) - 256 < 64 by omega)).trans (Eq.trans ?_ (answer_middle h1 h2).symm)
      have hX := fun x => hid1 ⟨((q : ℕ) - 256) / 8, by omega⟩ ⟨((q : ℕ) - 256) % 8, by omega⟩ x
      generalize hid 8 (pool g) (rW V0) (rHb V0) (((q : ℕ) - 256) / 8) (((q : ℕ) - 256) % 8) = H at hX ⊢
      exact ans_intro hX (rClsW V0) (rClsB V0) (rBoxW V0) (rBoxB V0) (rCtrW V0) (rCtrB V0) (rS V0 1) j
    · refine (dif_neg (show ¬ (q : ℕ) - 256 < 64 by omega)).trans (Eq.trans ?_ (answer_coarse h1 h2).symm)
      have hX := fun x => hid2 ⟨((q : ℕ) - 256 - 64) / 4, by omega⟩ ⟨((q : ℕ) - 256 - 64) % 4, by omega⟩ x
      generalize hid 4 (pool (pool g)) (rW V0) (rHb V0) (((q : ℕ) - 256 - 64) / 4) (((q : ℕ) - 256 - 64) % 4) = H at hX ⊢
      exact ans_intro hX (rClsW V0) (rClsB V0) (rBoxW V0) (rBoxB V0) (rCtrW V0) (rCtrB V0) (rS V0 2) j

end Cert.ReferenceIdeal.Value

end
-- ==== Proof.Scaling.lean ====
/- Why the kernel's answer is the reference's: scaling the box weights and the box bias is scaling the box numbers, when the scales are
   finite and either none is negative or whatever the box numbers depend on is finite. No program is mentioned here. -/
module

public import proofs.«01_k».proof.Proof.Answer

@[expose] public section

set_option maxRecDepth 16384

noncomputable section

namespace Cert.Heads

open Idealize.ShloMosaic

/-- A real number among the extended reals. -/
def IsReal (x : EReal) : Prop := ∃ r : ℝ, x = (r : EReal)

/-- Zero is real. -/
theorem isReal_zero : IsReal 0 := ⟨0, rfl⟩

/-- A sum of two reals is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A product of two reals is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two reals is real. -/
theorem IsReal.max {x y : EReal} (hx : IsReal x) (hy : IsReal y) : IsReal (max x y) := by
  rcases max_choice x y with h | h
  · rw [h]; exact hx
  · rw [h]; exact hy

/-- A finite sum of reals is real. -/
theorem isReal_sum {n : ℕ} {f : Fin n → EReal} (h : ∀ i, IsReal (f i)) : IsReal (∑ i, f i) := by
  induction n with
  | zero => rw [Fin.sum_univ_zero]; exact isReal_zero
  | succ n ih => rw [Fin.sum_univ_castSucc]; exact (ih fun i => h _).add (h _)

/-- A number strictly between the infinities is real. -/
theorem isReal_of_abs {x : EReal} (h : max x (-x) < ⊤) : IsReal x := by
  have h1 : x ≠ ⊤ := fun e => by rw [e] at h; exact absurd ((le_max_left _ _).trans_lt h) (lt_irrefl _)
  have h2 : x ≠ ⊥ := fun e => by rw [e, EReal.neg_bot] at h; exact absurd ((le_max_right _ _).trans_lt h) (lt_irrefl _)
  exact ⟨x.toReal, (EReal.coe_toReal h1 h2).symm⟩

/-- The features are real when the images, the projection's weights and its bias are. -/
theorem isReal_feat {A : Fin 128 → Fin 256 → Fin 384 → EReal} {w : Fin 384 → Fin 256 → EReal} {b : Fin 256 → EReal}
    (hA : ∀ i q k, IsReal (A i q k)) (hw : ∀ k d, IsReal (w k d)) (hb : ∀ d, IsReal (b d)) (B r c : ℕ) (k : Fin 256) :
    IsReal (feat A w b B r c k) := by
  unfold feat
  split
  · exact (isReal_sum fun j => (hA _ _ _).mul (hw _ _)).add (hb _)
  · exact isReal_zero

/-- The pooled features are real when the features are. -/
theorem isReal_pool {g : Feat} (hg : ∀ r c k, IsReal (g r c k)) (r c : ℕ) (k : Fin 256) : IsReal (pool g r c k) :=
  (((hg _ _ _).add (hg _ _ _)).add ((hg _ _ _).add (hg _ _ _))).mul ⟨1 / 4, rfl⟩

/-- A tap is real when its features and its weights are. -/
theorem isReal_tap {n : ℕ} {g : Feat} (hg : ∀ r c k, IsReal (g r c k)) {w : Fin 256 → EReal} (hw : ∀ k, IsReal (w k)) (r c i j : ℕ) :
    IsReal (tap n g r c i j w) := by
  refine isReal_sum fun k => IsReal.mul ?_ (hw k)
  split
  · exact hg _ _ _
  · exact isReal_zero

/-- A hidden channel is real when the features, the weights and the bias are. -/
theorem isReal_hid {n : ℕ} {g : Feat} (hg : ∀ r c k, IsReal (g r c k)) {W : Fin 9 → Fin 256 → Fin 256 → EReal}
    (hW : ∀ t k d, IsReal (W t k d)) {hb : Fin 256 → EReal} (hhb : ∀ d, IsReal (hb d)) (r c : ℕ) (d : Fin 256) :
    IsReal (hid n g W hb r c d) := by
  have ht : ∀ (t : Fin 9) i j, IsReal (tap n g r c i j fun k => W t k d) := fun t i j => isReal_tap hg (fun k => hW t k d) r c i j
  exact ((((((((((ht 0 0 0).add (ht 1 0 1)).add (ht 2 0 2)).add (ht 3 1 0)).add (ht 4 1 1)).add (ht 5 1 2)).add (ht 6 2 0)).add
    (ht 7 2 1)).add (ht 8 2 2)).add (hhb d)).max isReal_zero

/-- What scaling needs of one box number: the hidden channels `h`, a column `w` of box weights, the bias `b` and the scale `s`. -/
def Scales (h w : Fin 256 → EReal) (b s : EReal) : Prop :=
  IsReal s ∧ (0 ≤ s ∨ ((∀ d, IsReal (h d)) ∧ (∀ d, IsReal (w d)) ∧ IsReal b))

/-- Reals distribute over a sum of two reals. -/
theorem add_mul_of_isReal {x y s : EReal} (hx : IsReal x) (hy : IsReal y) (hs : IsReal s) : (x + y) * s = x * s + y * s := by
  obtain ⟨a, rfl⟩ := hx
  obtain ⟨b, rfl⟩ := hy
  obtain ⟨t, rfl⟩ := hs
  rw [← EReal.coe_add, ← EReal.coe_mul, ← EReal.coe_mul, ← EReal.coe_mul, ← EReal.coe_add, add_mul]

/-- Multiplying a sum from the right by a number that distributes over sums of two. -/
theorem sum_mul_of_add_mul {n : ℕ} (f : Fin n → EReal) (s : EReal) (h : ∀ x y : EReal, (x + y) * s = x * s + y * s) :
    (∑ i, f i) * s = ∑ i, f i * s := by
  induction n with
  | zero => rw [Fin.sum_univ_zero, Fin.sum_univ_zero, zero_mul]
  | succ n ih => rw [Fin.sum_univ_castSucc, Fin.sum_univ_castSucc, h, ih]

/-- The same for a sum of reals and a real. -/
theorem sum_mul_of_isReal {n : ℕ} (f : Fin n → EReal) (s : EReal) (hf : ∀ i, IsReal (f i)) (hs : IsReal s) :
    (∑ i, f i) * s = ∑ i, f i * s := by
  induction n with
  | zero => rw [Fin.sum_univ_zero, Fin.sum_univ_zero, zero_mul]
  | succ n ih => rw [Fin.sum_univ_castSucc, Fin.sum_univ_castSucc, add_mul_of_isReal (isReal_sum fun i => hf _) (hf _) hs, ih _ fun i => hf _]

/-- A box number made of scaled weights and a scaled bias is the scaled box number. -/
theorem scaled {h w : Fin 256 → EReal} {b s : EReal} (H : Scales h w b s) :
    ∑ d, h d * (w d * s) + b * s = s * (∑ d, h d * w d + b) := by
  have e : ∑ d, h d * (w d * s) = ∑ d, h d * w d * s := Finset.sum_congr rfl fun d _ => (mul_assoc _ _ _).symm
  rw [e, mul_comm s]
  rcases H with ⟨hs, hn | ⟨hh, hw, hb⟩⟩
  · have ht : s ≠ ⊤ := by obtain ⟨r, rfl⟩ := hs; exact EReal.coe_ne_top r
    have hd := EReal.right_distrib_of_nonneg_of_ne_top hn ht
    rw [hd, sum_mul_of_add_mul _ _ hd]
  · rw [add_mul_of_isReal (isReal_sum fun d => (hh d).mul (hw d)) hb hs, sum_mul_of_isReal _ _ (fun d => (hh d).mul (hw d)) hs]

/-- The seven results of a pixel at a level, from the kernel's scaled head, are the answer. -/
theorem res_eq_ans {h : Fin 256 → EReal} {cls : Fin 256 → Fin 2 → EReal} {clsB : Fin 2 → EReal} {box : Fin 256 → Fin 4 → EReal}
    {boxB : Fin 4 → EReal} {ctr : Fin 256 → EReal} {ctrB : EReal} {s : Fin 3 → EReal} (l : Fin 3)
    (H : ∀ k, Scales h (fun d => box d k) (boxB k) (s l)) (j : Fin 7) :
    res (raw h (headW cls box ctr s l) (headB clsB boxB ctrB s l)) j = ans h cls clsB box boxB ctr ctrB (s l) j := by
  unfold res ans raw headW headB
  by_cases h1 : (j : ℕ) < 2
  · rw [if_neg (by omega)]
    simp only [dif_pos h1]
  · by_cases h2 : (j : ℕ) < 6
    · rw [if_pos (by omega)]
      simp only [dif_neg h1, dif_pos h2]
      rw [scaled (H _)]
    · rw [if_neg (by omega)]
      simp only [dif_neg h1, dif_neg h2]

/-- What the two programs need in order to agree: the scales are finite, and either none of them is negative or everything the box
    numbers depend on is finite. -/
def Good (A : Fin 128 → Fin 256 → Fin 384 → EReal) (pw : Fin 384 → Fin 256 → EReal) (pb : Fin 256 → EReal)
    (W : Fin 9 → Fin 256 → Fin 256 → EReal) (hb : Fin 256 → EReal) (box : Fin 256 → Fin 4 → EReal) (boxB : Fin 4 → EReal)
    (s : Fin 3 → EReal) : Prop :=
  (∀ l, IsReal (s l)) ∧ ((∀ l, 0 ≤ s l) ∨ ((∀ i q k, IsReal (A i q k)) ∧ (∀ k d, IsReal (pw k d)) ∧ (∀ d, IsReal (pb d))
    ∧ (∀ t k d, IsReal (W t k d)) ∧ (∀ d, IsReal (hb d)) ∧ (∀ d k, IsReal (box d k)) ∧ ∀ k, IsReal (boxB k)))

/-- The kernel's results of an image are the answer. -/
theorem out_eq_answer {A : Fin 128 → Fin 256 → Fin 384 → EReal} {pw : Fin 384 → Fin 256 → EReal} {pb : Fin 256 → EReal}
    {W : Fin 9 → Fin 256 → Fin 256 → EReal} {hb : Fin 256 → EReal} {cls : Fin 256 → Fin 2 → EReal} {clsB : Fin 2 → EReal}
    {box : Fin 256 → Fin 4 → EReal} {boxB : Fin 4 → EReal} {ctr : Fin 256 → EReal} {ctrB : EReal} {s : Fin 3 → EReal}
    (H : Good A pw pb W hb box boxB s) (B q : ℕ) (j : Fin 7) :
    out (feat A pw pb B) W hb (headW cls box ctr s) (headB clsB boxB ctrB s) q j
      = answer (feat A pw pb B) W hb cls clsB box boxB ctr ctrB s q j := by
  have key : ∀ (n : ℕ) (g : Feat) (_ : ((∀ i q k, IsReal (A i q k)) ∧ (∀ k d, IsReal (pw k d)) ∧ ∀ d, IsReal (pb d)) → ∀ r c k, IsReal (g r c k))
      (r c : ℕ) (l : Fin 3) (k : Fin 4), Scales (hid n g W hb r c) (fun d => box d k) (boxB k) (s l) := by
    intro n g hg r c l k
    refine ⟨H.1 l, ?_⟩
    rcases H.2 with hn | ⟨hA, hw, hp, hW, hh, hx, hy⟩
    · exact Or.inl (hn l)
    · exact Or.inr ⟨fun d => isReal_hid (hg ⟨hA, hw, hp⟩) hW hh r c d, fun d => hx d k, hy k⟩
  have h0 : ((∀ i q k, IsReal (A i q k)) ∧ (∀ k d, IsReal (pw k d)) ∧ ∀ d, IsReal (pb d)) → ∀ r c k, IsReal (feat A pw pb B r c k) :=
    fun h => isReal_feat h.1 h.2.1 h.2.2 B
  unfold out answer
  rw [res_eq_ans 0 (key 16 _ h0 _ _ 0), res_eq_ans 1 (key 8 _ (fun h => isReal_pool (h0 h)) _ _ 1),
    res_eq_ans 2 (key 4 _ (fun h => isReal_pool (isReal_pool (h0 h))) _ _ 2)]

end Cert.Heads

end
-- ==== Proof.Precondition.lean ====
/- What the precondition says: the scales are finite, and either none of them is negative or every number the boxes depend on is finite. -/
module

public import proofs.«01_k».proof.Proof.Scaling
public import proofs.«01_k».proof.Proof.Gen.Pre_scales_act_linearly

@[expose] public section

set_option maxRecDepth 100000
set_option maxHeartbeats 4000000

noncomputable section

namespace Cert.Pre_scales_act_linearly

open Idealize.ShloMosaic Cert.Pre_scales_act_linearly Cert.Heads

/-- The pattern of plus infinity. -/
theorem infinity : Ideal.ofBits .f32 0x7F800000#32 = ⊤ := by
  simp [Ideal.ofBits, Ideal.ieee]

/-- A bit or another bit is one only if one of them is. -/
theorem or_one (a b : BitVec 1) (h : IntOp.ori a b = 1#1) : a = 1#1 ∨ b = 1#1 := by
  revert a b
  decide

/-- A bit and another bit is one only if both are. -/
theorem and_one (a b : BitVec 1) (h : IntOp.andi a b = 1#1) : a = 1#1 ∧ b = 1#1 := by
  revert a b
  decide

/-- The bit of a proposition is one only if it holds. -/
theorem holds_of_bit {p : Prop} [Decidable p] (h : BitVec.ofBool (decide p) = 1#1) : p := by
  by_contra hn
  rw [decide_eq_false hn] at h
  exact absurd h (by decide)

/-- The bit of a true comparison with infinity: the number is real. -/
theorem real_of_bit {x : Ideal .f32} (h : BitVec.ofBool (decide (FloatOps.absf x < Ideal.ofBits .f32 0x7F800000#32)) = 1#1) : IsReal x := by
  have h' : max x (-x) < Ideal.ofBits .f32 0x7F800000#32 := holds_of_bit h
  rw [infinity] at h'
  exact isReal_of_abs h'

/-- One entry of an array the boxes depend on: no scale is negative, or the entry is real. -/
theorem either {s0 s1 s2 : EReal} {x : Ideal .f32}
    (h : IntOp.ori (IntOp.andi (IntOp.andi (BitVec.ofBool (decide (0 ≤ s0))) (BitVec.ofBool (decide (0 ≤ s1)))) (BitVec.ofBool (decide (0 ≤ s2))))
      (BitVec.ofBool (decide (FloatOps.absf x < Ideal.ofBits .f32 0x7F800000#32))) = 1#1) : (0 ≤ s0 ∧ 0 ≤ s1 ∧ 0 ≤ s2) ∨ IsReal x := by
  rcases or_one _ _ h with u | u
  · have v := and_one _ _ u
    have w := and_one _ _ v.1
    exact Or.inl ⟨holds_of_bit w.1, holds_of_bit w.2, holds_of_bit v.2⟩
  · exact Or.inr (real_of_bit u)

section Meaning

variable (a0 : FVec Ideal S128x256x384 .f32) (a1 : FVec Ideal S384x256 .f32) (a2 : FVec Ideal S256 .f32)
  (a3 : FVec Ideal S3x3x256x256 .f32) (a4 : FVec Ideal S256 .f32) (a5 : FVec Ideal S1x1x256x2 .f32) (a6 : FVec Ideal S2 .f32)
  (a7 : FVec Ideal S1x1x256x4 .f32) (a8 : FVec Ideal S4 .f32) (a9 : FVec Ideal S1x1x256x1 .f32) (a10 : FVec Ideal S1 .f32)
  (a11 : FVec Ideal S3 .f32)

/-- The precondition, entry by entry: what the two programs need in order to agree. -/
theorem good (h0 : (fn (F := Ideal) a0 a1 a2 a3 a4 a5 a6 a7 a8 a9 a10 a11).1 = (fun _ => 1#1))
    (h1 : (fn (F := Ideal) a0 a1 a2 a3 a4 a5 a6 a7 a8 a9 a10 a11).2.1 = (fun _ => 1#1))
    (h2 : (fn (F := Ideal) a0 a1 a2 a3 a4 a5 a6 a7 a8 a9 a10 a11).2.2.1 = (fun _ => 1#1))
    (h3 : (fn (F := Ideal) a0 a1 a2 a3 a4 a5 a6 a7 a8 a9 a10 a11).2.2.2.1 = (fun _ => 1#1))
    (h4 : (fn (F := Ideal) a0 a1 a2 a3 a4 a5 a6 a7 a8 a9 a10 a11).2.2.2.2.1 = (fun _ => 1#1))
    (h5 : (fn (F := Ideal) a0 a1 a2 a3 a4 a5 a6 a7 a8 a9 a10 a11).2.2.2.2.2.1 = (fun _ => 1#1))
    (h6 : (fn (F := Ideal) a0 a1 a2 a3 a4 a5 a6 a7 a8 a9 a10 a11).2.2.2.2.2.2.1 = (fun _ => 1#1))
    (h7 : (fn (F := Ideal) a0 a1 a2 a3 a4 a5 a6 a7 a8 a9 a10 a11).2.2.2.2.2.2.2 = (fun _ => 1#1)) :
    Good (fun i q k => a0 (ix3 i q k)) (fun k d => a1 (ix2 k d)) (fun d => a2 (ix1 d))
      (fun t k d => a3 (ix4 ⟨t / 3, by omega⟩ ⟨t % 3, by omega⟩ k d)) (fun d => a4 (ix1 d)) (fun d j => a7 (ix4 0 0 d j)) (fun j => a8 (ix1 j))
      (fun l => a11 (ix1 l)) := by
  have e0 : ∀ l, IsReal (a11 (ix1 l)) := by
    intro l
    have e := congrFun h0 (ix1 l)
    unfold fn fn_part1 fn_part2 at e
    pointwise [] at e
    exact real_of_bit e
  have e1 : ∀ i j k, (0 ≤ a11 (ix1 0) ∧ 0 ≤ a11 (ix1 1) ∧ 0 ≤ a11 (ix1 2)) ∨ IsReal (a0 (ix3 i j k)) := by
    intro i j k
    have e := congrFun h1 (ix3 i j k)
    unfold fn fn_part1 fn_part2 at e
    pointwise [] at e
    exact either e
  have e2 : ∀ i j, (0 ≤ a11 (ix1 0) ∧ 0 ≤ a11 (ix1 1) ∧ 0 ≤ a11 (ix1 2)) ∨ IsReal (a1 (ix2 i j)) := by
    intro i j
    have e := congrFun h2 (ix2 i j)
    unfold fn fn_part1 fn_part2 at e
    pointwise [] at e
    exact either e
  have e3 : ∀ i, (0 ≤ a11 (ix1 0) ∧ 0 ≤ a11 (ix1 1) ∧ 0 ≤ a11 (ix1 2)) ∨ IsReal (a2 (ix1 i)) := by
    intro i
    have e := congrFun h3 (ix1 i)
    unfold fn fn_part1 fn_part2 at e
    pointwise [] at e
    exact either e
  have e4 : ∀ i j k l, (0 ≤ a11 (ix1 0) ∧ 0 ≤ a11 (ix1 1) ∧ 0 ≤ a11 (ix1 2)) ∨ IsReal (a3 (ix4 i j k l)) := by
    intro i j k l
    have e := congrFun h4 (ix4 i j k l)
    unfold fn fn_part1 fn_part2 at e
    pointwise [] at e
    exact either e
  have e5 : ∀ i, (0 ≤ a11 (ix1 0) ∧ 0 ≤ a11 (ix1 1) ∧ 0 ≤ a11 (ix1 2)) ∨ IsReal (a4 (ix1 i)) := by
    intro i
    have e := congrFun h5 (ix1 i)
    unfold fn fn_part1 fn_part2 at e
    pointwise [] at e
    exact either e
  have e6 : ∀ i j k l, (0 ≤ a11 (ix1 0) ∧ 0 ≤ a11 (ix1 1) ∧ 0 ≤ a11 (ix1 2)) ∨ IsReal (a7 (ix4 i j k l)) := by
    intro i j k l
    have e := congrFun h6 (ix4 i j k l)
    unfold fn fn_part1 fn_part2 at e
    pointwise [] at e
    exact either e
  have e7 : ∀ i, (0 ≤ a11 (ix1 0) ∧ 0 ≤ a11 (ix1 1) ∧ 0 ≤ a11 (ix1 2)) ∨ IsReal (a8 (ix1 i)) := by
    intro i
    have e := congrFun h7 (ix1 i)
    unfold fn fn_part1 fn_part2 at e
    pointwise [] at e
    exact either e
  refine ⟨e0, ?_⟩
  by_cases up : 0 ≤ a11 (ix1 0) ∧ 0 ≤ a11 (ix1 1) ∧ 0 ≤ a11 (ix1 2)
  · refine Or.inl fun l => ?_
    fin_cases l
    · exact up.1
    · exact up.2.1
    · exact up.2.2
  · exact Or.inr ⟨fun i q k => (e1 i q k).resolve_left up, fun k d => (e2 k d).resolve_left up, fun d => (e3 d).resolve_left up,
      fun t k d => (e4 _ _ k d).resolve_left up, fun d => (e5 d).resolve_left up, fun d j => (e6 0 0 d j).resolve_left up,
      fun j => (e7 j).resolve_left up⟩

end Meaning

end Cert.Pre_scales_act_linearly

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_scales_act_linearly
public import proofs.«01_k».proof.Proof.Gen.ReferenceIdeal.Run
public import proofs.«01_k».proof.Proof.KernelRun
public import proofs.«01_k».proof.Proof.KernelIdealRun
public import proofs.«01_k».proof.Proof.KernelValue
public import proofs.«01_k».proof.Proof.ReferenceValue
public import proofs.«01_k».proof.Proof.Precondition
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The kernel leaves its arguments as they were and every semaphore at zero. -/
theorem frame_kernel : Cert.quiescent_Kernel := by
  intro m g _
  exact (θ_run Cert.Kernel.defs _ _).mono (fun r h => ⟨fun c => ⟨
      (h.1 c Cert.Kernel.main_arg0 rfl).trans (Cert.Kernel.Body.kept m c _ (by decide) (by decide) (by decide)),
      (h.1 c Cert.Kernel.main_arg1 rfl).trans (Cert.Kernel.Body.kept m c _ (by decide) (by decide) (by decide)),
      (h.1 c Cert.Kernel.main_arg2 rfl).trans (Cert.Kernel.Body.kept m c _ (by decide) (by decide) (by decide)),
      (h.1 c Cert.Kernel.main_arg3 rfl).trans (Cert.Kernel.Body.kept m c _ (by decide) (by decide) (by decide)),
      (h.1 c Cert.Kernel.main_arg4 rfl).trans (Cert.Kernel.Body.kept m c _ (by decide) (by decide) (by decide)),
      (h.1 c Cert.Kernel.main_arg5 rfl).trans (Cert.Kernel.Body.kept m c _ (by decide) (by decide) (by decide)),
      (h.1 c Cert.Kernel.main_arg6 rfl).trans (Cert.Kernel.Body.kept m c _ (by decide) (by decide) (by decide)),
      (h.1 c Cert.Kernel.main_arg7 rfl).trans (Cert.Kernel.Body.kept m c _ (by decide) (by decide) (by decide)),
      (h.1 c Cert.Kernel.main_arg8 rfl).trans (Cert.Kernel.Body.kept m c _ (by decide) (by decide) (by decide)),
      (h.1 c Cert.Kernel.main_arg9 rfl).trans (Cert.Kernel.Body.kept m c _ (by decide) (by decide) (by decide)),
      (h.1 c Cert.Kernel.main_arg10 rfl).trans (Cert.Kernel.Body.kept m c _ (by decide) (by decide) (by decide)),
      (h.1 c Cert.Kernel.main_arg11 rfl).trans (Cert.Kernel.Body.kept m c _ (by decide) (by decide) (by decide))⟩, h.2⟩)
    (θ_run_and (Cert.Kernel.Body.run_main m g) (Cert.Kernel.Body.run_sems m g))

/-- The idealized kernel leaves its arguments as they were and every semaphore at zero. -/
theorem frame_kernelIdeal : Cert.quiescent_KernelIdeal := by
  intro m g _
  exact (θ_run Cert.KernelIdeal.defs _ _).mono (fun r h => ⟨fun c => ⟨
      (h.1 c Cert.KernelIdeal.main_arg0 rfl).trans (Cert.KernelIdeal.Body.kept m c _ (by decide) (by decide) (by decide)),
      (h.1 c Cert.KernelIdeal.main_arg1 rfl).trans (Cert.KernelIdeal.Body.kept m c _ (by decide) (by decide) (by decide)),
      (h.1 c Cert.KernelIdeal.main_arg2 rfl).trans (Cert.KernelIdeal.Body.kept m c _ (by decide) (by decide) (by decide)),
      (h.1 c Cert.KernelIdeal.main_arg3 rfl).trans (Cert.KernelIdeal.Body.kept m c _ (by decide) (by decide) (by decide)),
      (h.1 c Cert.KernelIdeal.main_arg4 rfl).trans (Cert.KernelIdeal.Body.kept m c _ (by decide) (by decide) (by decide)),
      (h.1 c Cert.KernelIdeal.main_arg5 rfl).trans (Cert.KernelIdeal.Body.kept m c _ (by decide) (by decide) (by decide)),
      (h.1 c Cert.KernelIdeal.main_arg6 rfl).trans (Cert.KernelIdeal.Body.kept m c _ (by decide) (by decide) (by decide)),
      (h.1 c Cert.KernelIdeal.main_arg7 rfl).trans (Cert.KernelIdeal.Body.kept m c _ (by decide) (by decide) (by decide)),
      (h.1 c Cert.KernelIdeal.main_arg8 rfl).trans (Cert.KernelIdeal.Body.kept m c _ (by decide) (by decide) (by decide)),
      (h.1 c Cert.KernelIdeal.main_arg9 rfl).trans (Cert.KernelIdeal.Body.kept m c _ (by decide) (by decide) (by decide)),
      (h.1 c Cert.KernelIdeal.main_arg10 rfl).trans (Cert.KernelIdeal.Body.kept m c _ (by decide) (by decide) (by decide)),
      (h.1 c Cert.KernelIdeal.main_arg11 rfl).trans (Cert.KernelIdeal.Body.kept m c _ (by decide) (by decide) (by decide))⟩, h.2⟩)
    (θ_run_and (Cert.KernelIdeal.Body.run_main m g) (Cert.KernelIdeal.Body.run_sems m g))

/-- The reference leaves its arguments as they were and every semaphore at zero. -/
theorem frame_reference : Cert.quiescent_ReferenceIdeal := by
  intro m g _
  exact (θ_run Cert.ReferenceIdeal.defs _ _).mono
    (fun r h => ⟨fun c => (h c).2, Idealize.ShloMosaic.sem_eq_zero_of_no_sems (by decide) r.2⟩)
    (Cert.ReferenceIdeal.Value.run m g)

/-- The reference's result is the kernel's, entry by entry, when the two start with the same arguments and the precondition holds. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_scales_act_linearly m) (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3))
    (h4 : m' (c.tc.loc Cert.ReferenceIdeal.main_arg4) = m (c.tc.loc Cert.KernelIdeal.main_arg4))
    (h5 : m' (c.tc.loc Cert.ReferenceIdeal.main_arg5) = m (c.tc.loc Cert.KernelIdeal.main_arg5))
    (h6 : m' (c.tc.loc Cert.ReferenceIdeal.main_arg6) = m (c.tc.loc Cert.KernelIdeal.main_arg6))
    (h7 : m' (c.tc.loc Cert.ReferenceIdeal.main_arg7) = m (c.tc.loc Cert.KernelIdeal.main_arg7))
    (h8 : m' (c.tc.loc Cert.ReferenceIdeal.main_arg8) = m (c.tc.loc Cert.KernelIdeal.main_arg8))
    (h9 : m' (c.tc.loc Cert.ReferenceIdeal.main_arg9) = m (c.tc.loc Cert.KernelIdeal.main_arg9))
    (h10 : m' (c.tc.loc Cert.ReferenceIdeal.main_arg10) = m (c.tc.loc Cert.KernelIdeal.main_arg10))
    (h11 : m' (c.tc.loc Cert.ReferenceIdeal.main_arg11) = m (c.tc.loc Cert.KernelIdeal.main_arg11)) :
    (show FVec Ideal Cert.ReferenceIdeal.S128x7x336 .f32 from Cert.ReferenceIdeal.Value.res_out0 (StableHlo.launchContents m' c))
      = (show FVec Ideal Cert.KernelIdeal.S128x7x336 .f32 from
          StableHlo.after Cert.KernelIdeal.Setup.hostOps1 (Pipeline.afterRegion (Cert.KernelIdeal.Body.dats m 0 c)
            (StableHlo.after Cert.KernelIdeal.Setup.hostOps0 (StableHlo.launchContents m c))) (Proc.devRef .tc Cert.KernelIdeal.main_v0)) := by
  obtain ⟨p0, p1, p2, p3, p4, p5, p6, p7⟩ := hpre c
  have G := Cert.Pre_scales_act_linearly.good _ _ _ _ _ _ _ _ _ _ _ _ p0 p1 p2 p3 p4 p5 p6 p7
  funext i
  obtain ⟨B, j, q, rfl⟩ : ∃ (B : Fin 128) (j : Fin 7) (q : Fin 336), i = ix3 B j q := ⟨i 0, i 1, i 2, by funext a; fin_cases a <;> rfl⟩
  refine ((Cert.ReferenceIdeal.Value.result _ B j q).trans ?_).trans (Cert.KernelIdeal.Value.result m c B j q).symm
  refine Eq.trans ?_ (Cert.Heads.out_eq_answer G B q j).symm
  have e0 : Cert.ReferenceIdeal.Value.rA (StableHlo.launchContents m' c) = Cert.KernelIdeal.Value.aA m c := by
    funext b q k
    exact congrArg (fun v : FVec Ideal Cert.KernelIdeal.S128x256x384 .f32 => v (ix3 b q k)) h0
  have e1 : Cert.ReferenceIdeal.Value.rPw (StableHlo.launchContents m' c) = Cert.KernelIdeal.Value.aPw m c := by
    funext k d
    exact congrArg (fun v : FVec Ideal Cert.KernelIdeal.S384x256 .f32 => v (ix2 k d)) h1
  have e2 : Cert.ReferenceIdeal.Value.rPb (StableHlo.launchContents m' c) = Cert.KernelIdeal.Value.aPb m c := by
    funext d
    exact congrArg (fun v : FVec Ideal Cert.KernelIdeal.S256 .f32 => v (ix1 d)) h2
  have e3 : Cert.ReferenceIdeal.Value.rW (StableHlo.launchContents m' c) = Cert.KernelIdeal.Value.aW m c := by
    funext t k d
    exact congrArg (fun v : FVec Ideal Cert.KernelIdeal.S3x3x256x256 .f32 => v (ix4 ⟨t / 3, by omega⟩ ⟨t % 3, by omega⟩ k d)) h3
  have e4 : Cert.ReferenceIdeal.Value.rHb (StableHlo.launchContents m' c) = Cert.KernelIdeal.Value.aHb m c := by
    funext d
    exact congrArg (fun v : FVec Ideal Cert.KernelIdeal.S256 .f32 => v (ix1 d)) h4
  have e5 : Cert.ReferenceIdeal.Value.rClsW (StableHlo.launchContents m' c) = Cert.KernelIdeal.Value.aClsW m c := by
    funext d j
    exact congrArg (fun v : FVec Ideal Cert.KernelIdeal.S1x1x256x2 .f32 => v (ix4 0 0 d j)) h5
  have e6 : Cert.ReferenceIdeal.Value.rClsB (StableHlo.launchContents m' c) = Cert.KernelIdeal.Value.aClsB m c := by
    funext j
    exact congrArg (fun v : FVec Ideal Cert.KernelIdeal.S2 .f32 => v (ix1 j)) h6
  have e7 : Cert.ReferenceIdeal.Value.rBoxW (StableHlo.launchContents m' c) = Cert.KernelIdeal.Value.aBoxW m c := by
    funext d j
    exact congrArg (fun v : FVec Ideal Cert.KernelIdeal.S1x1x256x4 .f32 => v (ix4 0 0 d j)) h7
  have e8 : Cert.ReferenceIdeal.Value.rBoxB (StableHlo.launchContents m' c) = Cert.KernelIdeal.Value.aBoxB m c := by
    funext j
    exact congrArg (fun v : FVec Ideal Cert.KernelIdeal.S4 .f32 => v (ix1 j)) h8
  have e9 : Cert.ReferenceIdeal.Value.rCtrW (StableHlo.launchContents m' c) = Cert.KernelIdeal.Value.aCtrW m c := by
    funext d
    exact congrArg (fun v : FVec Ideal Cert.KernelIdeal.S1x1x256x1 .f32 => v (ix4 0 0 d 0)) h9
  have e10 : Cert.ReferenceIdeal.Value.rCtrB (StableHlo.launchContents m' c) = Cert.KernelIdeal.Value.aCtrB m c := congrArg (fun v : FVec Ideal Cert.KernelIdeal.S1 .f32 => v (ix1 0)) h10
  have e11 : Cert.ReferenceIdeal.Value.rS (StableHlo.launchContents m' c) = Cert.KernelIdeal.Value.aS m c := by
    funext l
    exact congrArg (fun v : FVec Ideal Cert.KernelIdeal.S3 .f32 => v (ix1 l)) h11
  unfold Cert.ReferenceIdeal.Value.rG
  rw [e0, e1, e2, e3, e4, e5, e6, e7, e8, e9, e10, e11]

/-- The idealized kernel computes the reference's result. -/
theorem algebra : Cert.algebraic_KernelIdeal_ReferenceIdeal_pre_scales_act_linearly := by
  intro m g m' g' hpre hagree
  refine ⟨fun c => StableHlo.after Cert.KernelIdeal.Setup.hostOps1 (Pipeline.afterRegion (Cert.KernelIdeal.Body.dats m 0 c)
    (StableHlo.after Cert.KernelIdeal.Setup.hostOps0 (StableHlo.launchContents m c))) (Proc.devRef .tc Cert.KernelIdeal.main_v0), ?_, ?_⟩
  · exact (θ_run Cert.KernelIdeal.defs _ _).mono (fun r h c => ⟨h c Cert.KernelIdeal.main_v0 rfl,
      (h c Cert.KernelIdeal.main_arg0 rfl).trans (Cert.KernelIdeal.Body.kept m c _ (by decide) (by decide) (by decide)),
      (h c Cert.KernelIdeal.main_arg1 rfl).trans (Cert.KernelIdeal.Body.kept m c _ (by decide) (by decide) (by decide)),
      (h c Cert.KernelIdeal.main_arg2 rfl).trans (Cert.KernelIdeal.Body.kept m c _ (by decide) (by decide) (by decide)),
      (h c Cert.KernelIdeal.main_arg3 rfl).trans (Cert.KernelIdeal.Body.kept m c _ (by decide) (by decide) (by decide)),
      (h c Cert.KernelIdeal.main_arg4 rfl).trans (Cert.KernelIdeal.Body.kept m c _ (by decide) (by decide) (by decide)),
      (h c Cert.KernelIdeal.main_arg5 rfl).trans (Cert.KernelIdeal.Body.kept m c _ (by decide) (by decide) (by decide)),
      (h c Cert.KernelIdeal.main_arg6 rfl).trans (Cert.KernelIdeal.Body.kept m c _ (by decide) (by decide) (by decide)),
      (h c Cert.KernelIdeal.main_arg7 rfl).trans (Cert.KernelIdeal.Body.kept m c _ (by decide) (by decide) (by decide)),
      (h c Cert.KernelIdeal.main_arg8 rfl).trans (Cert.KernelIdeal.Body.kept m c _ (by decide) (by decide) (by decide)),
      (h c Cert.KernelIdeal.main_arg9 rfl).trans (Cert.KernelIdeal.Body.kept m c _ (by decide) (by decide) (by decide)),
      (h c Cert.KernelIdeal.main_arg10 rfl).trans (Cert.KernelIdeal.Body.kept m c _ (by decide) (by decide) (by decide)),
      (h c Cert.KernelIdeal.main_arg11 rfl).trans (Cert.KernelIdeal.Body.kept m c _ (by decide) (by decide) (by decide))⟩)
      (Cert.KernelIdeal.Body.run_main m g)
  · refine (θ_run Cert.ReferenceIdeal.defs _ _).mono (fun r h c => ⟨(h c).1.trans ?_, (h c).2⟩) (Cert.ReferenceIdeal.Value.run m' g')
    obtain ⟨h0, h1, h2, h3, h4, h5, h6, h7, h8, h9, h10, h11⟩ := hagree c
    exact same m m' hpre c h0 h1 h2 h3 h4 h5 h6 h7 h8 h9 h10 h11

/-- Every claim. -/
theorem claim : Cert.Claim :=
  ⟨Cert.Kernel.Gen.facts, Cert.KernelIdeal.Gen.facts, Cert.ReferenceIdeal.Gen.facts, Cert.Pre_scales_act_linearly.Gen.facts,
    frame_kernel, frame_kernelIdeal, fun m g _ => frame_kernelIdeal m g trivial, frame_reference, fun m g _ => frame_reference m g trivial,
    trivial, algebra⟩

end Cert.Proof

end
